-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
-- ==== Pre_finite_queries_and_keys.lean ====
abbrev S8x8192x8x64 : Shape := ⟨4, ![8, 8192, 8, 64]⟩
abbrev S8x8192x8x32 : Shape := ⟨4, ![8, 8192, 8, 32]⟩
abbrev S8x8192x32 : Shape := ⟨3, ![8, 8192, 32]⟩
abbrev S8x8192x8x96 : Shape := ⟨4, ![8, 8192, 8, 96]⟩
abbrev S8x8192x1x32 : Shape := ⟨4, ![8, 8192, 1, 32]⟩
abbrev S_ : Shape := ⟨0, ![]⟩

class Facts : Prop where
  concatenates_S8x8192x8x64_S8x8192x8x32_S8x8192x8x96_d3 : Shape.Concatenates [S8x8192x8x64, S8x8192x8x32] S8x8192x8x96 3
  bcast_S8x8192x32_S8x8192x1x32_0_1_3 : S8x8192x32.BroadcastsInDim S8x8192x1x32 (![0, 1, 3] : Fin 3 → Fin S8x8192x1x32.rank)
  bcast_S8x8192x1x32_S8x8192x8x32_0_1_2_3 : S8x8192x1x32.BroadcastsInDim S8x8192x8x32 (![0, 1, 2, 3] : Fin 4 → Fin S8x8192x8x32.rank)
  bcast_S_S8x8192x8x96 : S_.BroadcastsInDim S8x8192x8x96 (![] : Fin 0 → Fin S8x8192x8x96.rank)

variable [Facts]

def fn {F : FTy → Type} [FloatOps F] (main_arg0 : FVec F S8x8192x8x64 .f32) (main_arg1 : FVec F S8x8192x8x32 .f32) (main_arg2 : FVec F S8x8192x8x64 .f32) (main_arg3 : FVec F S8x8192x32 .f32) (main_arg4 : FVec F S8x8192x8x64 .f32) : IVec S8x8192x8x96 1 :=
  let main_v0 : FVec F S8x8192x8x96 .f32 := (fun a b => concatenate S8x8192x8x96 3 [⟨S8x8192x8x64, a⟩, ⟨S8x8192x8x32, b⟩] concatenates_S8x8192x8x64_S8x8192x8x32_S8x8192x8x96_d3) main_arg0 main_arg1
  let main_v1 : FVec F S8x8192x1x32 .f32 := broadcastInDim S8x8192x1x32 ![0, 1, 3] bcast_S8x8192x32_S8x8192x1x32_0_1_3 main_arg3
  let main_v2 : FVec F S8x8192x8x32 .f32 := broadcastInDim S8x8192x8x32 ![0, 1, 2, 3] bcast_S8x8192x1x32_S8x8192x8x32_0_1_2_3 main_v1
  let main_v3 : FVec F S8x8192x8x96 .f32 := (fun a b => concatenate S8x8192x8x96 3 [⟨S8x8192x8x64, a⟩, ⟨S8x8192x8x32, b⟩] concatenates_S8x8192x8x64_S8x8192x8x32_S8x8192x8x96_d3) main_arg2 main_v2
  let main_v4 : FVec F S8x8192x8x96 .f32 := Host.absf main_v0
  let main_cst : FVec F S_ .f32 := constant S_ .f32 0x7F800000#32
  let main_v5 : FVec F S8x8192x8x96 .f32 := broadcastInDim S8x8192x8x96 ![] bcast_S_S8x8192x8x96 main_cst
  let main_v6 : IVec S8x8192x8x96 1 := cmpf .olt main_v4 main_v5
  let main_v7 : FVec F S8x8192x8x96 .f32 := Host.absf main_v3
  let main_cst_0 : FVec F S_ .f32 := constant S_ .f32 0x7F800000#32
  let main_v8 : FVec F S8x8192x8x96 .f32 := broadcastInDim S8x8192x8x96 ![] bcast_S_S8x8192x8x96 main_cst_0
  let main_v9 : IVec S8x8192x8x96 1 := cmpf .olt main_v7 main_v8
  let main_v10 : IVec S8x8192x8x96 1 := andi main_v6 main_v9
  main_v10
-- ==== Kernel.lean ====
abbrev S8x8192x8x64 : Shape := ⟨4, ![8, 8192, 8, 64]⟩
abbrev S8x8192x8x32 : Shape := ⟨4, ![8, 8192, 8, 32]⟩
abbrev S8x8192x32 : Shape := ⟨3, ![8, 8192, 32]⟩
abbrev S8x8192x8x96 : Shape := ⟨4, ![8, 8192, 8, 96]⟩
abbrev S_ : Shape := ⟨0, ![]⟩
abbrev S8x8192x8x128 : Shape := ⟨4, ![8, 8192, 8, 128]⟩
abbrev S8x16x512x8x128 : Shape := ⟨5, ![8, 16, 512, 8, 128]⟩
abbrev S8x8x16x128x512 : Shape := ⟨5, ![8, 8, 16, 128, 512]⟩
abbrev S8x8192x1x32 : Shape := ⟨4, ![8, 8192, 1, 32]⟩
abbrev S8x8x8192x128 : Shape := ⟨4, ![8, 8, 8192, 128]⟩
abbrev S8x8192x8x1 : Shape := ⟨4, ![8, 8192, 8, 1]⟩
abbrev S8x8192x8x65 : Shape := ⟨4, ![8, 8192, 8, 65]⟩
abbrev S8x8192x8x80 : Shape := ⟨4, ![8, 8192, 8, 80]⟩
abbrev S8x16x512x8x80 : Shape := ⟨5, ![8, 16, 512, 8, 80]⟩
abbrev S8x8x16x80x512 : Shape := ⟨5, ![8, 8, 16, 80, 512]⟩
abbrev S8x8192x512 : Shape := ⟨3, ![8, 8192, 512]⟩
abbrev S1x2x2x128x512 : Shape := ⟨5, ![1, 2, 2, 128, 512]⟩
abbrev S1x2x8192x128 : Shape := ⟨4, ![1, 2, 8192, 128]⟩
abbrev S1x2x16x80x512 : Shape := ⟨5, ![1, 2, 16, 80, 512]⟩
abbrev S1x1024x128 : Shape := ⟨3, ![1, 1024, 128]⟩
abbrev S2x512x1024 : Shape := ⟨3, ![2, 512, 1024]⟩
abbrev S1x1x1x128x512 : Shape := ⟨5, ![1, 1, 1, 128, 512]⟩
abbrev S128x512 : Shape := ⟨2, ![128, 512]⟩
abbrev S128x1024 : Shape := ⟨2, ![128, 1024]⟩
abbrev S1x1024 : Shape := ⟨2, ![1, 1024]⟩
abbrev S80x1024 : Shape := ⟨2, ![80, 1024]⟩
abbrev S1x1x512x128 : Shape := ⟨4, ![1, 1, 512, 128]⟩
abbrev S512x128 : Shape := ⟨2, ![512, 128]⟩
abbrev S512x1024 : Shape := ⟨2, ![512, 1024]⟩
abbrev S1x512x1024 : Shape := ⟨3, ![1, 512, 1024]⟩
abbrev S1024 : Shape := ⟨1, ![1024]⟩
abbrev S1x1x1x80x512 : Shape := ⟨5, ![1, 1, 1, 80, 512]⟩
abbrev S80x512 : Shape := ⟨2, ![80, 512]⟩
abbrev S64x1024 : Shape := ⟨2, ![64, 1024]⟩
abbrev S1024x128 : Shape := ⟨2, ![1024, 128]⟩

abbrev nBuf : Space → Nat
  | .hbm => 33
  | .vmem => 10
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x8x32, .f32⟩
  | .hbm, ⟨2, _⟩ => ⟨S8x8192x8x64, .f32⟩
  | .hbm, ⟨3, _⟩ => ⟨S8x8192x32, .f32⟩
  | .hbm, ⟨4, _⟩ => ⟨S8x8192x8x64, .f32⟩
  | .hbm, ⟨5, _⟩ => ⟨S8x8192x8x96, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x8192x8x96, .f32⟩
  | .hbm, ⟨11, _⟩ => ⟨S8x8192x8x96, .f32⟩
  | .hbm, ⟨12, _⟩ => ⟨S_, .f32⟩
  | .hbm, ⟨13, _⟩ => ⟨S8x8192x8x128, .f32⟩
  | .hbm, ⟨14, _⟩ => ⟨S8x8192x8x128, .bf16⟩
  | .hbm, ⟨15, _⟩ => ⟨S8x16x512x8x128, .bf16⟩
  | .hbm, ⟨16, _⟩ => ⟨S8x8x16x128x512, .bf16⟩
  | .hbm, ⟨17, _⟩ => ⟨S8x8192x1x32, .f32⟩
  | .hbm, ⟨18, _⟩ => ⟨S8x8192x8x32, .f32⟩
  | .hbm, ⟨19, _⟩ => ⟨S8x8192x8x96, .f32⟩
  | .hbm, ⟨20, _⟩ => ⟨S_, .f32⟩
  | .hbm, ⟨21, _⟩ => ⟨S8x8192x8x128, .f32⟩
  | .hbm, ⟨22, _⟩ => ⟨S8x8192x8x128, .bf16⟩
  | .hbm, ⟨23, _⟩ => ⟨S8x8x8192x128, .bf16⟩
  | .hbm, ⟨24, _⟩ => ⟨S_, .f32⟩
  | .hbm, ⟨25, _⟩ => ⟨S8x8192x8x1, .f32⟩
  | .hbm, ⟨26, _⟩ => ⟨S8x8192x8x65, .f32⟩
  | .hbm, ⟨27, _⟩ => ⟨S_, .f32⟩
  | .hbm, ⟨28, _⟩ => ⟨S8x8192x8x80, .f32⟩
  | .hbm, ⟨29, _⟩ => ⟨S8x8192x8x80, .bf16⟩
  | .hbm, ⟨30, _⟩ => ⟨S8x16x512x8x80, .bf16⟩
  | .hbm, ⟨31, _⟩ => ⟨S8x8x16x80x512, .bf16⟩
  | .hbm, ⟨32, _⟩ => ⟨S8x8192x512, .f32⟩
  | .local _ .vmem, ⟨0, _⟩ => ⟨S1x2x2x128x512, .bf16⟩
  | .local _ .vmem, ⟨1, _⟩ => ⟨S1x2x2x128x512, .bf16⟩
  | .local _ .vmem, ⟨2, _⟩ => ⟨S1x2x8192x128, .bf16⟩
  | .local _ .vmem, ⟨3, _⟩ => ⟨S1x2x8192x128, .bf16⟩
  | .local _ .vmem, ⟨4, _⟩ => ⟨S1x2x16x80x512, .bf16⟩
  | .local _ .vmem, ⟨5, _⟩ => ⟨S1x2x16x80x512, .bf16⟩
  | .local _ .vmem, ⟨6, _⟩ => ⟨S1x1024x128, .f32⟩
  | .local _ .vmem, ⟨7, _⟩ => ⟨S1x1024x128, .f32⟩
  | .local _ .vmem, ⟨8, _⟩ => ⟨S2x512x1024, .f32⟩
  | .local _ .vmem, ⟨9, _⟩ => ⟨S2x512x1024, .f32⟩
  | _, _ => ⟨S8x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_mult1 : BitVec 32 :=
  let c0_i32 : BitVec 32 := 0#32
  c0_i32
def k0_mult2 : BitVec 32 :=
  let c0_i32_27 : BitVec 32 := 0#32
  c0_i32_27
@[reducible] def k0_t1_loop : Scf.Loop 32 :=
  let c0_i32_36 : BitVec 32 := 0#32
  let c3_i32 : BitVec 32 := 3#32
  let v32 : BitVec 32 := Scalar.addi c0_i32_36 c3_i32
  let c1_i32 : BitVec 32 := 1#32
  ⟨c0_i32_36, v32, c1_i32⟩
def k0_mult3 (k0_t1 : Fin k0_t1_loop.trips) : BitVec 32 :=
  let c4_i32 : BitVec 32 := 4#32
  let c0_i32_36 : BitVec 32 := 0#32
  let c1_i32 : BitVec 32 := 1#32
  let arg9 : BitVec 32 := Scf.iv c0_i32_36 c1_i32 k0_t1
  let v227 : BitVec 32 := Scalar.muli c4_i32 arg9
  let c0_i32_160 : BitVec 32 := 0#32
  let v228 : BitVec 32 := Scalar.addi v227 c0_i32_160
  let c1_i32_161 : BitVec 32 := 1#32
  let v229 : BitVec 32 := Scalar.addi v228 c1_i32_161
  let c512_i32 : BitVec 32 := 512#32
  let v230 : BitVec 32 := Scalar.muli v229 c512_i32
  v230
def k0_off1 (k0_t1 : Fin k0_t1_loop.trips) (c0_i32_160 : BitVec 32) : Fin 4 → Nat :=
  let c0_162 : Index := 0#32
  let c0_163 : Index := 0#32
  let c4_i32 : BitVec 32 := 4#32
  let c0_i32_36 : BitVec 32 := 0#32
  let c1_i32 : BitVec 32 := 1#32
  let arg9 : BitVec 32 := Scf.iv c0_i32_36 c1_i32 k0_t1
  let v227 : BitVec 32 := Scalar.muli c4_i32 arg9
  let v228 : BitVec 32 := Scalar.addi v227 c0_i32_160
  let c1_i32_161 : BitVec 32 := 1#32
  let v229 : BitVec 32 := Scalar.addi v228 c1_i32_161
  let c512_i32 : BitVec 32 := 512#32
  let v230 : BitVec 32 := Scalar.muli v229 c512_i32
  let v231 : BitVec 32 := v230
  let v232 : Index := Scalar.indexCast v231
  let c0_164 : Index := 0#32
  ![0, 0, v232.toNat, 0]
def k0_off2 (k0_t1 : Fin k0_t1_loop.trips) (c0_i32_160 : BitVec 32) : Fin 5 → Nat :=
  let c0_173 : Index := 0#32
  let c0_174 : Index := 0#32
  let c4_i32 : BitVec 32 := 4#32
  let c0_i32_36 : BitVec 32 := 0#32
  let c1_i32 : BitVec 32 := 1#32
  let arg9 : BitVec 32 := Scf.iv c0_i32_36 c1_i32 k0_t1
  let v227 : BitVec 32 := Scalar.muli c4_i32 arg9
  let v228 : BitVec 32 := Scalar.addi v227 c0_i32_160
  let v252 : Index := Scalar.indexCast v228
  let c0_175 : Index := 0#32
  let c0_176 : Index := 0#32
  ![0, 0, v252.toNat, 0, 0]
def k0_mult4 (k0_t1 : Fin k0_t1_loop.trips) : BitVec 32 :=
  let c4_i32 : BitVec 32 := 4#32
  let c0_i32_36 : BitVec 32 := 0#32
  let c1_i32 : BitVec 32 := 1#32
  let arg9 : BitVec 32 := Scf.iv c0_i32_36 c1_i32 k0_t1
  let v227 : BitVec 32 := Scalar.muli c4_i32 arg9
  let c0_i32_160 : BitVec 32 := 0#32
  let v228 : BitVec 32 := Scalar.addi v227 c0_i32_160
  let c1_i32_178 : BitVec 32 := 1#32
  let v257 : BitVec 32 := Scalar.addi v228 c1_i32_178
  let c512_i32_179 : BitVec 32 := 512#32
  let v258 : BitVec 32 := Scalar.muli v257 c512_i32_179
  v258
def k0_off3 (k0_t1 : Fin k0_t1_loop.trips) (c0_i32_160 : BitVec 32) : Fin 4 → Nat :=
  let c0_180 : Index := 0#32
  let c1_181 : Index := 1#32
  let c4_i32 : BitVec 32 := 4#32
  let c0_i32_36 : BitVec 32 := 0#32
  let c1_i32 : BitVec 32 := 1#32
  let arg9 : BitVec 32 := Scf.iv c0_i32_36 c1_i32 k0_t1
  let v227 : BitVec 32 := Scalar.muli c4_i32 arg9
  let v228 : BitVec 32 := Scalar.addi v227 c0_i32_160
  let c1_i32_178 : BitVec 32 := 1#32
  let v257 : BitVec 32 := Scalar.addi v228 c1_i32_178
  let c512_i32_179 : BitVec 32 := 512#32
  let v258 : BitVec 32 := Scalar.muli v257 c512_i32_179
  let v259 : BitVec 32 := v258
  let v260 : Index := Scalar.indexCast v259
  let c0_182 : Index := 0#32
  ![0, 1, v260.toNat, 0]
def k0_off4 (k0_t1 : Fin k0_t1_loop.trips) (c0_i32_160 : BitVec 32) : Fin 5 → Nat :=
  let c0_191 : Index := 0#32
  let c1_192 : Index := 1#32
  let c4_i32 : BitVec 32 := 4#32
  let c0_i32_36 : BitVec 32 := 0#32
  let c1_i32 : BitVec 32 := 1#32
  let arg9 : BitVec 32 := Scf.iv c0_i32_36 c1_i32 k0_t1
  let v227 : BitVec 32 := Scalar.muli c4_i32 arg9
  let v228 : BitVec 32 := Scalar.addi v227 c0_i32_160
  let v280 : Index := Scalar.indexCast v228
  let c0_193 : Index := 0#32
  let c0_194 : Index := 0#32
  ![0, 1, v280.toNat, 0, 0]
def k0_mult5 (k0_t1 : Fin k0_t1_loop.trips) : BitVec 32 :=
  let c4_i32 : BitVec 32 := 4#32
  let c0_i32_36 : BitVec 32 := 0#32
  let c1_i32 : BitVec 32 := 1#32
  let arg9 : BitVec 32 := Scf.iv c0_i32_36 c1_i32 k0_t1
  let v227 : BitVec 32 := Scalar.muli c4_i32 arg9
  let c1_i32_196 : BitVec 32 := 1#32
  let v285 : BitVec 32 := Scalar.addi v227 c1_i32_196
  let c1_i32_197 : BitVec 32 := 1#32
  let v286 : BitVec 32 := Scalar.addi v285 c1_i32_197
  let c512_i32_198 : BitVec 32 := 512#32
  let v287 : BitVec 32 := Scalar.muli v286 c512_i32_198
  v287
def k0_mult6 (k0_t1 : Fin k0_t1_loop.trips) : BitVec 32 :=
  let c4_i32 : BitVec 32 := 4#32
  let c0_i32_36 : BitVec 32 := 0#32
  let c1_i32 : BitVec 32 := 1#32
  let arg9 : BitVec 32 := Scf.iv c0_i32_36 c1_i32 k0_t1
  let v227 : BitVec 32 := Scalar.muli c4_i32 arg9
  let c1_i32_196 : BitVec 32 := 1#32
  let v285 : BitVec 32 := Scalar.addi v227 c1_i32_196
  let c1_i32_215 : BitVec 32 := 1#32
  let v314 : BitVec 32 := Scalar.addi v285 c1_i32_215
  let c512_i32_216 : BitVec 32 := 512#32
  let v315 : BitVec 32 := Scalar.muli v314 c512_i32_216
  v315
def k0_mult7 (k0_t1 : Fin k0_t1_loop.trips) : BitVec 32 :=
  let c4_i32 : BitVec 32 := 4#32
  let c0_i32_36 : BitVec 32 := 0#32
  let c1_i32 : BitVec 32 := 1#32
  let arg9 : BitVec 32 := Scf.iv c0_i32_36 c1_i32 k0_t1
  let v227 : BitVec 32 := Scalar.muli c4_i32 arg9
  let c2_i32 : BitVec 32 := 2#32
  let v342 : BitVec 32 := Scalar.addi v227 c2_i32
  let c1_i32_233 : BitVec 32 := 1#32
  let v343 : BitVec 32 := Scalar.addi v342 c1_i32_233
  let c512_i32_234 : BitVec 32 := 512#32
  let v344 : BitVec 32 := Scalar.muli v343 c512_i32_234
  v344
def k0_mult8 (k0_t1 : Fin k0_t1_loop.trips) : BitVec 32 :=
  let c4_i32 : BitVec 32 := 4#32
  let c0_i32_36 : BitVec 32 := 0#32
  let c1_i32 : BitVec 32 := 1#32
  let arg9 : BitVec 32 := Scf.iv c0_i32_36 c1_i32 k0_t1
  let v227 : BitVec 32 := Scalar.muli c4_i32 arg9
  let c2_i32 : BitVec 32 := 2#32
  let v342 : BitVec 32 := Scalar.addi v227 c2_i32
  let c1_i32_251 : BitVec 32 := 1#32
  let v371 : BitVec 32 := Scalar.addi v342 c1_i32_251
  let c512_i32_252 : BitVec 32 := 512#32
  let v372 : BitVec 32 := Scalar.muli v371 c512_i32_252
  v372
def k0_mult9 (k0_t1 : Fin k0_t1_loop.trips) : BitVec 32 :=
  let c4_i32 : BitVec 32 := 4#32
  let c0_i32_36 : BitVec 32 := 0#32
  let c1_i32 : BitVec 32 := 1#32
  let arg9 : BitVec 32 := Scf.iv c0_i32_36 c1_i32 k0_t1
  let v227 : BitVec 32 := Scalar.muli c4_i32 arg9
  let c3_i32_269 : BitVec 32 := 3#32
  let v399 : BitVec 32 := Scalar.addi v227 c3_i32_269
  let c1_i32_270 : BitVec 32 := 1#32
  let v400 : BitVec 32 := Scalar.addi v399 c1_i32_270
  let c512_i32_271 : BitVec 32 := 512#32
  let v401 : BitVec 32 := Scalar.muli v400 c512_i32_271
  v401
def k0_mult10 (k0_t1 : Fin k0_t1_loop.trips) : BitVec 32 :=
  let c4_i32 : BitVec 32 := 4#32
  let c0_i32_36 : BitVec 32 := 0#32
  let c1_i32 : BitVec 32 := 1#32
  let arg9 : BitVec 32 := Scf.iv c0_i32_36 c1_i32 k0_t1
  let v227 : BitVec 32 := Scalar.muli c4_i32 arg9
  let c3_i32_269 : BitVec 32 := 3#32
  let v399 : BitVec 32 := Scalar.addi v227 c3_i32_269
  let c1_i32_288 : BitVec 32 := 1#32
  let v428 : BitVec 32 := Scalar.addi v399 c1_i32_288
  let c512_i32_289 : BitVec 32 := 512#32
  let v429 : BitVec 32 := Scalar.muli v428 c512_i32_289
  v429
def k0_mult11 : BitVec 32 :=
  let c6656_i32 : BitVec 32 := 6656#32
  c6656_i32
def k0_mult12 : BitVec 32 :=
  let c6656_i32_54 : BitVec 32 := 6656#32
  c6656_i32_54
def k0_mult13 : BitVec 32 :=
  let c7168_i32 : BitVec 32 := 7168#32
  c7168_i32
def k0_mult14 : BitVec 32 :=
  let c7168_i32_88 : BitVec 32 := 7168#32
  c7168_i32_88
def k0_mult15 : BitVec 32 :=
  let c7680_i32 : BitVec 32 := 7680#32
  c7680_i32
def k0_mult16 : BitVec 32 :=
  let c7680_i32_122 : BitVec 32 := 7680#32
  c7680_i32_122
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x2x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x16x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x8192x8x64 : Shape := ⟨4, ![8, 8192, 8, 64]⟩
abbrev S8x8192x8x32 : Shape := ⟨4, ![8, 8192, 8, 32]⟩
abbrev S8x8192x32 : Shape := ⟨3, ![8, 8192, 32]⟩
abbrev S8x8x8192x8192 : Shape := ⟨4, ![8, 8, 8192, 8192]⟩
abbrev S8x8192x8192x8 : Shape := ⟨4, ![8, 8192, 8192, 8]⟩
abbrev S_ : Shape := ⟨0, ![]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩
abbrev S8x8192x512 : Shape := ⟨3, ![8, 8192, 512]⟩

abbrev nBuf : Space → Nat
  | .hbm => 29
  | .vmem => 0
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x8x32, .f32⟩
  | .hbm, ⟨2, _⟩ => ⟨S8x8192x8x64, .f32⟩
  | .hbm, ⟨3, _⟩ => ⟨S8x8192x32, .f32⟩
  | .hbm, ⟨4, _⟩ => ⟨S8x8192x8x64, .f32⟩
  | .hbm, ⟨5, _⟩ => ⟨S8x8x8192x8192, .f32⟩
  | .hbm, ⟨6, _⟩ => ⟨S8x8192x8192x8, .f32⟩
  | .hbm, ⟨7, _⟩ => ⟨S8x8x8192x8192, .f32⟩
  | .hbm, ⟨8, _⟩ => ⟨S8x8x8192x8192, .f32⟩
  | .hbm, ⟨9, _⟩ => ⟨S_, .f32⟩
  | .hbm, ⟨10, _⟩ => ⟨S8x8x8192x8192, .f32⟩
  | .hbm, ⟨11, _⟩ => ⟨S8x8x8192x8192, .f32⟩
  | .hbm, ⟨12, _⟩ => ⟨S_, .f32⟩
  | .hbm, ⟨13, _⟩ => ⟨S8x8x8192, .f32⟩
  | .hbm, ⟨14, _⟩ => ⟨S_, .f32⟩
  | .hbm, ⟨15, _⟩ => ⟨S8x8x8192, .f32⟩
  | .hbm, ⟨16, _⟩ => ⟨S8x8x8192, .f32⟩
  | .hbm, ⟨17, _⟩ => ⟨S8x8x8192x1, .f32⟩
  | .hbm, ⟨18, _⟩ => ⟨S8x8x8192x8192, .f32⟩
  | .hbm, ⟨19, _⟩ => ⟨S8x8x8192x8192, .f32⟩
  | .hbm, ⟨20, _⟩ => ⟨S8x8x8192x8192, .f32⟩
  | .hbm, ⟨21, _⟩ => ⟨S_, .f32⟩
  | .hbm, ⟨22, _⟩ => ⟨S8x8x8192, .f32⟩
  | .hbm, ⟨23, _⟩ => ⟨S8x8x8192x1, .f32⟩
  | .hbm, ⟨24, _⟩ => ⟨S8x8x8192x8192, .f32⟩
  | .hbm, ⟨25, _⟩ => ⟨S8x8x8192x8192, .f32⟩
  | .hbm, ⟨26, _⟩ => ⟨S8x8x64x8192, .f32⟩
  | .hbm, ⟨27, _⟩ => ⟨S8x8192x8x64, .f32⟩
  | .hbm, ⟨28, _⟩ => ⟨S8x8192x512, .f32⟩
  | _, _ => ⟨S8x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x8192x512 : Shape := ⟨3, ![8, 8192, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x8192x2x256 : Shape := ⟨4, ![8, 8192, 2, 256]⟩
abbrev S8x2x8192x256 : Shape := ⟨4, ![8, 2, 8192, 256]⟩
abbrev S1x1024 : Shape := ⟨2, ![1, 1024]⟩
abbrev S1x512x1024 : Shape := ⟨3, ![1, 512, 1024]⟩
abbrev S1x2x512x256 : Shape := ⟨4, ![1, 2, 512, 256]⟩
abbrev S1x512x512 : Shape := ⟨3, ![1, 512, 512]⟩
abbrev S1x1x512x256 : Shape := ⟨4, ![1, 1, 512, 256]⟩
abbrev S512x256 : Shape := ⟨2, ![512, 256]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩

abbrev nBuf : Space → Nat
  | .hbm => 15
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S8x8192x2x256, .f32⟩
  | .hbm, ⟨8, _⟩ => ⟨S8x2x8192x256, .f32⟩
  | .hbm, ⟨9, _⟩ => ⟨S8x2x8192x256, .bf16⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x2x512x256, .bf16⟩
  | .local _ .vmem, ⟨3, _⟩ => ⟨S1x2x512x256, .bf16⟩
  | .local _ .vmem, ⟨4, _⟩ => ⟨S1x512x512, .f32⟩
  | .local _ .vmem, ⟨5, _⟩ => ⟨S1x512x512, .f32⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x512x1024, .f32⟩
  | .local _ .vmem, ⟨11, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x8192x1024 : Shape := ⟨3, ![8, 8192, 1024]⟩
abbrev S8x8192x512 : Shape := ⟨3, ![8, 8192, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S8x8192x1024, .f32⟩
  | .hbm, ⟨8, _⟩ => ⟨S8x8192x1024, .f32⟩
  | .hbm, ⟨9, _⟩ => ⟨S8x8192x1024, .f32⟩
  | .hbm, ⟨10, _⟩ => ⟨S8x8192x1024, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1, .f32⟩
  | .hbm, ⟨21, _⟩ => ⟨S8x8192x1024, .f32⟩
  | .hbm, ⟨22, _⟩ => ⟨S8x8192x1024, .f32⟩
  | .hbm, ⟨23, _⟩ => ⟨S1x1x1024, .f32⟩
  | .hbm, ⟨24, _⟩ => ⟨S8x8192x1024, .f32⟩
  | .hbm, ⟨25, _⟩ => ⟨S8x8192x1024, .f32⟩
  | .hbm, ⟨26, _⟩ => ⟨S8x8192x4096, .f32⟩
  | .hbm, ⟨27, _⟩ => ⟨S_, .f32⟩
  | .hbm, ⟨28, _⟩ => ⟨S8x8192x4096, .f32⟩
  | .hbm, ⟨29, _⟩ => ⟨S8x8192x4096, .f32⟩
  | .hbm, ⟨30, _⟩ => ⟨S8x8192x4096, .f32⟩
  | .hbm, ⟨31, _⟩ => ⟨S8x8192x1024, .f32⟩
  | .hbm, ⟨32, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Proof.Out.Math.lean ====
/- One token's output projection and feed-forward part, as plain sums. -/
module

public import proofs.«01_k».proof.Defs

@[expose] public section

noncomputable section

namespace Cert.OutMlp

open Idealize.ShloMosaic

/-- A token's row `r`, normalised by its mean square and scaled by `g`. -/
def rmsn (r g : Fin 1024 → EReal) (d : Fin 1024) : EReal :=
  r d * Ideal.rsqrt (Ideal.div (∑ x, r x * r x) (Ideal.ofBits .f32 0x44800000#32) + Ideal.ofBits .f32 0x358637BD#32) * g d

/-- A hidden unit's activation: the squared positive part of its inner product with the normalised row. -/
def act (h w : Fin 1024 → EReal) : EReal := max (∑ d, h d * w d) 0 * max (∑ d, h d * w d) 0

/-- The token's row `r` at one lane after the feed-forward part. -/
def mlp (r g : Fin 1024 → EReal) (w1 : Fin 1024 → Fin 4096 → EReal) (w2 : Fin 4096 → EReal) (o : Fin 1024) : EReal :=
  r o + ∑ f, act (rmsn r g) (fun d => w1 d f) * w2 f

/-- A sum over the hidden units, added up onto `a` in eight runs of 512. -/
theorem runs (a : EReal) (t : Fin 4096 → EReal) :
    a + ∑ f, t f = a + ∑ x : Fin 512, t ⟨x.val, by omega⟩ + ∑ x : Fin 512, t ⟨512 + x.val, by omega⟩
      + ∑ x : Fin 512, t ⟨1024 + x.val, by omega⟩ + ∑ x : Fin 512, t ⟨1536 + x.val, by omega⟩
      + ∑ x : Fin 512, t ⟨2048 + x.val, by omega⟩ + ∑ x : Fin 512, t ⟨2560 + x.val, by omega⟩
      + ∑ x : Fin 512, t ⟨3072 + x.val, by omega⟩ + ∑ x : Fin 512, t ⟨3584 + x.val, by omega⟩ := by
  have e : ∑ f, t f = ∑ f : Fin (512 + (512 + (512 + (512 + (512 + (512 + (512 + 512))))))), t f := rfl
  rw [e]
  simp only [Fin.sum_univ_add, ← add_assoc]
  congr 1

end Cert.OutMlp

end
-- ==== Proof.Out.Pay.lean ====
/- The output projection with its feed-forward part: what one block's payloads hold, entry by entry. -/
module

public import proofs.«01_k».proof.Proof.Gen.Kernel2Ideal.Frame
public import proofs.«01_k».proof.Proof.Out.Math
public import Idealize.ShloMosaic.Lib.Pointwise

@[expose] public section

set_option maxRecDepth 16384

noncomputable section

set_option maxHeartbeats 200000

namespace Cert.Kernel2Ideal.Out

open Idealize.ShloMosaic Idealize.ShloMosaic.TcCoe Idealize.SL.Sem Cert.Kernel2Ideal Cert.Kernel2Ideal.Gen Cert.OutMlp

/-- The block's residual row: the activations plus the joined heads' projection. -/
def res (x0 : Vec Ideal S1x512x1024 .f32) (x1 : Vec Ideal S1x2x512x256 .bf16) (x2 : Vec Ideal S1x512x512 .f32) (x3 : Vec Ideal S1024x1024 .bf16)
    (p : Fin 512) (o : Fin 1024) : EReal :=
  x0 (ix3 0 p o) + ∑ x : Fin 1024, (if h : x.val < 256 then x1 (ix4 0 0 p ⟨x.val, h⟩)
    else if h' : x.val - 256 < 256 then x1 (ix4 0 1 p ⟨x.val - 256, h'⟩) else x2 (ix3 0 p ⟨x.val - 256 - 256, by omega⟩)) * x3 (ix2 x o)

theorem pay2_at (v0 v2 : Vec Ideal S1x1x512x256 .bf16) (v4 : Vec Ideal S1x512x512 .f32) (v8 : Vec Ideal S1x512x1024 .f32)
    (v10 : Vec Ideal S1024x1024 .bf16) (p : Fin 512) (o : Fin 1024) : k0_pay2 (F := Ideal) v0 v2 v4 v8 v10 (ix2 p o)
      = v8 (ix3 0 p o) + ∑ x : Fin 1024, (if h : x.val < 256 then v0 (ix4 0 0 p ⟨x.val, h⟩)
        else if h' : x.val - 256 < 256 then v2 (ix4 0 0 p ⟨x.val - 256, h'⟩) else v4 (ix3 0 p ⟨x.val - 256 - 256, by omega⟩)) * v10 (ix2 x o) := by
  pointwise [k0_pay2]

theorem pay3_at (v0 v2 : Vec Ideal S1x1x512x256 .bf16) (v4 : Vec Ideal S1x512x512 .f32) (v8 : Vec Ideal S1x512x1024 .f32)
    (v10 : Vec Ideal S1024x1024 .bf16) (v14 : Vec Ideal S1x1024 .f32) (p : Fin 512) (o : Fin 1024) : k0_pay3 (F := Ideal) v0 v2 v4 v8 v10 v14 (ix2 p o)
      = rmsn (fun d => k0_pay2 (F := Ideal) v0 v2 v4 v8 v10 (ix2 p d)) (fun d => v14 (ix2 0 d)) o := by
  unfold rmsn
  pointwise [k0_pay3]

section

variable (h : FVec Ideal S512x1024 .bf16) (acc : FVec Ideal S512x1024 .f32) (u1 u2 u3 u4 : Vec Ideal S1024x512 .bf16)
  (w0 w1 w2 w3 w4 : Vec Ideal S512x1024 .bf16) (p : Fin 512) (o : Fin 1024)

/-- What one run of 512 hidden units adds. -/
def part (u : Vec Ideal S1024x512 .bf16) (w : Vec Ideal S512x1024 .bf16) : EReal :=
  ∑ x : Fin 512, act (fun d => h (ix2 p d)) (fun d => u (ix2 d x)) * w (ix2 x o)

theorem pay1_at (z : Fin 1) : k0_pay1 (F := Ideal) h acc u1 w1 (ix3 z p o) = acc (ix2 p o) + part h p o u1 w1 := by
  unfold part act
  pointwise [k0_pay1]

theorem pay5_at (a : FVec Ideal S512x512 .f32) (u0 : Vec Ideal S1024x512 .bf16)
    (ha : ∀ x, a (ix2 p x) = ∑ d, h (ix2 p d) * u0 (ix2 d x)) :
    k0_pay5 (F := Ideal) acc h a (Scalar.ofBits .f32 0x00000000#32) w0 u1 w1 u2 w2 (ix2 p o)
      = acc (ix2 p o) + part h p o u0 w0 + part h p o u1 w1 + part h p o u2 w2 := by
  unfold part act
  simp only [← ha]
  pointwise [k0_pay5]

theorem pay7_at : k0_pay7 (F := Ideal) h acc (k0_pay6 (F := Ideal) h u1) w1 u2 w2 u3 w3 u4 w4 (ix2 p o)
      = acc (ix2 p o) + part h p o u1 w1 + part h p o u2 w2 + part h p o u3 w3 + part h p o u4 w4 := by
  unfold part act
  pointwise [k0_pay7, k0_pay6]

theorem pay4_at (v0 v2 : Vec Ideal S1x1x512x256 .bf16) (v4 : Vec Ideal S1x512x512 .f32) (v8 : Vec Ideal S1x512x1024 .f32)
    (v10 : Vec Ideal S1024x1024 .bf16) (v14 : Vec Ideal S1x1024 .f32) (x : Fin 512) : k0_pay4 (F := Ideal) v0 v2 v4 v8 v10 v14 u1 (ix2 p x)
      = ∑ d, k0_pay3 (F := Ideal) v0 v2 v4 v8 v10 v14 (ix2 p d) * u1 (ix2 d x) := by
  pointwise [k0_pay4]

end

section

variable (x0 : Vec Ideal S1x512x1024 .f32) (x1 : Vec Ideal S1x2x512x256 .bf16) (x2 : Vec Ideal S1x512x512 .f32) (x3 : Vec Ideal S1024x1024 .bf16)
  (x4 : Vec Ideal S1x1024 .f32) (x5 : Vec Ideal S1024x4096 .bf16) (x6 : Vec Ideal S4096x1024 .bf16) (p : Fin 512) (o : Fin 1024)

theorem pay8_at : k0_pay8 (F := Ideal) x0 x1 x2 x3 x4 x5 x6 (ix2 p o) = rmsn (res x0 x1 x2 x3 p) (fun d => x4 (ix2 0 d)) o := by
  unfold k0_pay8
  rw [pay3_at]
  simp only [pay2_at]
  unfold rmsn res
  pointwise

/-- What a grid point leaves at a token and a lane. -/
theorem out_at (z : Fin 1) : out0_7 (F := Ideal) x0 x1 x2 x3 x4 x5 x6 (ix3 z p o)
      = mlp (res x0 x1 x2 x3 p) (fun d => x4 (ix2 0 d)) (fun d f => x5 (ix2 d f)) (fun f => x6 (ix2 f o)) o := by
  unfold out0_7
  rw [View.canon_cons_unit_zero (by decide)]
  rw [pay1_at, pay7_at, pay5_at (h := k0_pay8 x0 x1 x2 x3 x4 x5 x6) (ha := fun x => pay4_at _ _ _ _ _ _ _ _ _), pay2_at]
  unfold mlp
  rw [runs]
  unfold part
  simp only [pay8_at]
  unfold res
  pointwise

end

end Cert.Kernel2Ideal.Out

end
-- ==== Proof.Out.Ref.lean ====
/- The reference's output projection with its feed-forward part, entry by entry. -/
module

public import proofs.«01_k».proof.Proof.Gen.Reference2Ideal.Run
public import proofs.«01_k».proof.Proof.Gen.Reference2Ideal.Read
public import proofs.«01_k».proof.Proof.Out.Math
public import Idealize.ShloMosaic.Lib.Pointwise

@[expose] public section

set_option maxRecDepth 16384

noncomputable section

set_option maxHeartbeats 200000

namespace Cert.Reference2Ideal.Out

open Idealize.ShloMosaic Idealize.ShloMosaic.TcCoe Idealize.SL.Sem Cert.Reference2Ideal Cert.Reference2Ideal.Gen Cert.Reference2Ideal.Read Cert.OutMlp

variable (x0 : FVec Ideal S8x8192x1024 .f32) (x1 x2 : FVec Ideal S8x8192x512 .f32) (x3 : FVec Ideal S1024x1024 .f32)
  (x4 : FVec Ideal S1024 .f32) (x5 : FVec Ideal S1024x4096 .f32) (x6 : FVec Ideal S4096x1024 .f32) (b : Fin 8) (l : Fin 8192)

/-- A token's residual row: the activations plus the joined heads' projection. -/
def rres (o : Fin 1024) : EReal :=
  x0 (ix3 b l o) + ∑ x : Fin 1024, (if h : x.val < 512 then x1 (ix3 b l ⟨x.val, h⟩) else x2 (ix3 b l ⟨x.val - 512, by omega⟩)) * x3 (ix2 x o)

theorem v0_at (x : Fin 1024) : val_main_v0 (F := Ideal) x1 x2 (ix3 b l x)
    = if h : x.val < 512 then x1 (ix3 b l ⟨x.val, h⟩) else x2 (ix3 b l ⟨x.val - 512, by omega⟩) := by
  pointwise [val_main_v0]

theorem v2_at (o : Fin 1024) : val_main_v2 (F := Ideal) x0 x1 x2 x3 (ix3 b l o) = rres x0 x1 x2 x3 b l o := by
  unfold rres
  simp only [← v0_at]
  pointwise [val_main_v2, val_main_v1]

theorem v15_at (o : Fin 1024) : val_main_v15 (F := Ideal) x0 x1 x2 x3 x4 (ix3 b l o) = rmsn (rres x0 x1 x2 x3 b l) (fun d => x4 (ix1 d)) o := by
  unfold rmsn
  simp only [← v2_at]
  pointwise [val_main_v15, val_main_v14, val_main_v13, val_main_v12, val_main_v11, val_main_v10, val_main_v9, val_main_v8, val_main_v7, val_main_v6, val_main_v5,
    val_main_v4, val_main_v3, val_main_cst, val_main_cst_0, val_main_cst_1]

theorem v20_at (o : Fin 1024) : val_main_v20 (F := Ideal) x0 x1 x2 x3 x4 x5 x6 (ix3 b l o)
    = mlp (rres x0 x1 x2 x3 b l) (fun d => x4 (ix1 d)) (fun d f => x5 (ix2 d f)) (fun f => x6 (ix2 f o)) o := by
  unfold mlp act
  simp only [← v2_at, ← v15_at]
  pointwise [val_main_v20, val_main_v19, val_main_v18, val_main_v17, val_main_v16, val_main_call0_v0, val_main_call0_cst]

end Cert.Reference2Ideal.Out

end
-- ==== Proof.Out.Value.lean ====
/- The blocks of the output projection's operands at a grid point, and the result array it leaves. -/
module

public import proofs.«01_k».proof.Proof.Out.Pay
public import proofs.«01_k».proof.Proof.Out.Ref
public import Idealize.ShloMosaic.Lib.Pipeline.Covers

@[expose] public section

set_option maxRecDepth 16384

noncomputable section

set_option maxHeartbeats 100000

namespace Cert.Kernel2Ideal.Out

open Idealize.ShloMosaic Idealize.ShloMosaic.TcCoe Idealize.SL.Sem Cert.Kernel2Ideal Cert.Kernel2Ideal.Gen Cert.OutMlp

variable (m : (ℓ : Loc nD τ sig) → Buf (Elt Ideal) ℓ) (c : Dev nD)

/-- The arguments. -/
abbrev a0 : FVec Ideal S8x8192x1024 .f32 := m ((c.tc : Thread nD τ).loc main_arg0)
abbrev a1 : FVec Ideal S8x8192x512 .f32 := m ((c.tc : Thread nD τ).loc main_arg1)
abbrev a2 : FVec Ideal S8x8192x512 .f32 := m ((c.tc : Thread nD τ).loc main_arg2)
abbrev a3 : FVec Ideal S1024x1024 .f32 := m ((c.tc : Thread nD τ).loc main_arg3)
abbrev a4 : FVec Ideal S1024 .f32 := m ((c.tc : Thread nD τ).loc main_arg4)
abbrev a5 : FVec Ideal S1024x4096 .f32 := m ((c.tc : Thread nD τ).loc main_arg5)
abbrev a6 : FVec Ideal S4096x1024 .f32 := m ((c.tc : Thread nD τ).loc main_arg6)

theorem heads_at (b : Fin 8) (g : Fin 2) (l : Fin 8192) (d : Fin 256) :
    (V m c main_v2 : FVec Ideal S8x2x8192x256 .bf16) (ix4 b g l d) = a1 m c (ix3 b l ⟨g.val * 256 + d.val, by omega⟩) := by
  entry_read
  pointwise

theorem proj_at (i : Fin 1024) (j : Fin 1024) : (V m c main_v3 : FVec Ideal S1024x1024 .bf16) (ix2 i j) = a3 m c (ix2 i j) := by
  entry_read
  pointwise

theorem gain_at (z : Fin 1) (j : Fin 1024) : (V m c main_v4 : FVec Ideal S1x1024 .f32) (ix2 z j) = a4 m c (ix1 j) := by
  entry_read
  pointwise

theorem up_at (i : Fin 1024) (j : Fin 4096) : (V m c main_v5 : FVec Ideal S1024x4096 .bf16) (ix2 i j) = a5 m c (ix2 i j) := by
  entry_read
  pointwise

theorem down_at (i : Fin 4096) (j : Fin 1024) : (V m c main_v6 : FVec Ideal S4096x1024 .bf16) (ix2 i j) = a6 m c (ix2 i j) := by
  entry_read
  pointwise

/-- The blocks a grid point works on: a batch and 512 of its tokens; the weights whole. -/
theorem index_at : ∀ t : Fin cfg0.N,
    win0_0.index t = ![(grid0.coords t 0).val, (grid0.coords t 1).val, 0]
      ∧ win0_1.index t = ![(grid0.coords t 0).val, 0, (grid0.coords t 1).val, 0]
      ∧ win0_2.index t = ![(grid0.coords t 0).val, (grid0.coords t 1).val, 0]
      ∧ win0_3.index t = ![0, 0] ∧ win0_4.index t = ![0, 0] ∧ win0_5.index t = ![0, 0] ∧ win0_6.index t = ![0, 0]
      ∧ win0_7.index t = ![(grid0.coords t 0).val, (grid0.coords t 1).val, 0]
      ∧ (grid0.coords t 0).val < 8 ∧ (grid0.coords t 1).val < 16 :=
  (by decide +kernel : ∀ t : Fin grid0.N, _)

/-- Window 0's block read at an index: the array's entry where the block is placed. -/
theorem read0 (t : Fin grid0.N) (y : (win0_0.xblock (grid0.coords t)).Idx) (X : FVec Ideal S8x8192x1024 .f32) (j : S8x8192x1024.Idx)
    (h : ∀ a, (j a).val = win0_0.index t a * win0_0.size a + (y a).val) : View.read (Elt Ideal) (win0_0.blk t).view X y = X j := by
  exact congrArg X (funext fun a => Fin.ext ((Pipeline.Window.rect_emb_val win0_0 t y a rfl).trans (h a).symm))

/-- Window 1's block read at an index: the array's entry where the block is placed. -/
theorem read1 (t : Fin grid0.N) (y : (win0_1.xblock (grid0.coords t)).Idx) (X : FVec Ideal S8x2x8192x256 .bf16) (j : S8x2x8192x256.Idx)
    (h : ∀ a, (j a).val = win0_1.index t a * win0_1.size a + (y a).val) : View.read (Elt Ideal) (win0_1.blk t).view X y = X j := by
  exact congrArg X (funext fun a => Fin.ext ((Pipeline.Window.rect_emb_val win0_1 t y a rfl).trans (h a).symm))

/-- Window 2's block read at an index: the array's entry where the block is placed. -/
theorem read2 (t : Fin grid0.N) (y : (win0_2.xblock (grid0.coords t)).Idx) (X : FVec Ideal S8x8192x512 .f32) (j : S8x8192x512.Idx)
    (h : ∀ a, (j a).val = win0_2.index t a * win0_2.size a + (y a).val) : View.read (Elt Ideal) (win0_2.blk t).view X y = X j := by
  exact congrArg X (funext fun a => Fin.ext ((Pipeline.Window.rect_emb_val win0_2 t y a rfl).trans (h a).symm))

/-- Window 3's block read at an index: the array's entry where the block is placed. -/
theorem read3 (t : Fin grid0.N) (y : (win0_3.xblock (grid0.coords t)).Idx) (X : FVec Ideal S1024x1024 .bf16) (j : S1024x1024.Idx)
    (h : ∀ a, (j a).val = win0_3.index t a * win0_3.size a + (y a).val) : View.read (Elt Ideal) (win0_3.blk t).view X y = X j := by
  exact congrArg X (funext fun a => Fin.ext ((Pipeline.Window.rect_emb_val win0_3 t y a rfl).trans (h a).symm))

/-- Window 4's block read at an index: the array's entry where the block is placed. -/
theorem read4 (t : Fin grid0.N) (y : (win0_4.xblock (grid0.coords t)).Idx) (X : FVec Ideal S1x1024 .f32) (j : S1x1024.Idx)
    (h : ∀ a, (j a).val = win0_4.index t a * win0_4.size a + (y a).val) : View.read (Elt Ideal) (win0_4.blk t).view X y = X j := by
  exact congrArg X (funext fun a => Fin.ext ((Pipeline.Window.rect_emb_val win0_4 t y a rfl).trans (h a).symm))

/-- Window 5's block read at an index: the array's entry where the block is placed. -/
theorem read5 (t : Fin grid0.N) (y : (win0_5.xblock (grid0.coords t)).Idx) (X : FVec Ideal S1024x4096 .bf16) (j : S1024x4096.Idx)
    (h : ∀ a, (j a).val = win0_5.index t a * win0_5.size a + (y a).val) : View.read (Elt Ideal) (win0_5.blk t).view X y = X j := by
  exact congrArg X (funext fun a => Fin.ext ((Pipeline.Window.rect_emb_val win0_5 t y a rfl).trans (h a).symm))

/-- Window 6's block read at an index: the array's entry where the block is placed. -/
theorem read6 (t : Fin grid0.N) (y : (win0_6.xblock (grid0.coords t)).Idx) (X : FVec Ideal S4096x1024 .bf16) (j : S4096x1024.Idx)
    (h : ∀ a, (j a).val = win0_6.index t a * win0_6.size a + (y a).val) : View.read (Elt Ideal) (win0_6.blk t).view X y = X j := by
  exact congrArg X (funext fun a => Fin.ext ((Pipeline.Window.rect_emb_val win0_6 t y a rfl).trans (h a).symm))

/-- Where the result's block is placed. -/
theorem emb7 (t : Fin grid0.N) (y : (win0_7.xblock (grid0.coords t)).Idx) (j : S8x8192x1024.Idx)
    (h : ∀ a, (j a).val = win0_7.index t a * win0_7.size a + (y a).val) : (win0_7.blk t).view.emb y = j :=
  funext fun a => Fin.ext ((Pipeline.Window.rect_emb_val win0_7 t y a rfl).trans (h a).symm)

section

variable (t : Fin grid0.N)

theorem pwin_at (i : Fin 1024) (j : Fin 1024) : (iblk m c 3 t : Vec Ideal S1024x1024 .bf16) (ix2 i j) = a3 m c (ix2 i j) := by
  refine (read3 t (ix2 i j) (V m c main_v3) (ix2 i j) fun a => ?_).trans (proj_at m c i j)
  rw [(index_at t).2.2.2.1]
  have h0 : i.val = 0 * 1024 + i.val := by omega
  have h1 : j.val = 0 * 1024 + j.val := by omega
  exact match a with | 0 => h0 | 1 => h1

theorem uwin_at (i : Fin 1024) (j : Fin 4096) : (iblk m c 5 t : Vec Ideal S1024x4096 .bf16) (ix2 i j) = a5 m c (ix2 i j) := by
  refine (read5 t (ix2 i j) (V m c main_v5) (ix2 i j) fun a => ?_).trans (up_at m c i j)
  rw [(index_at t).2.2.2.2.2.1]
  have h0 : i.val = 0 * 1024 + i.val := by omega
  have h1 : j.val = 0 * 4096 + j.val := by omega
  exact match a with | 0 => h0 | 1 => h1

theorem dwin_at (i : Fin 4096) (j : Fin 1024) : (iblk m c 6 t : Vec Ideal S4096x1024 .bf16) (ix2 i j) = a6 m c (ix2 i j) := by
  refine (read6 t (ix2 i j) (V m c main_v6) (ix2 i j) fun a => ?_).trans (down_at m c i j)
  rw [(index_at t).2.2.2.2.2.2.1]
  have h0 : i.val = 0 * 4096 + i.val := by omega
  have h1 : j.val = 0 * 1024 + j.val := by omega
  exact match a with | 0 => h0 | 1 => h1

theorem gwin_at (j : Fin 1024) : (iblk m c 4 t : Vec Ideal S1x1024 .f32) (ix2 0 j) = a4 m c (ix1 j) := by
  refine (read4 t (ix2 0 j) (V m c main_v4) (ix2 0 j) fun a => ?_).trans (gain_at m c 0 j)
  rw [(index_at t).2.2.2.2.1]
  have h1 : j.val = 0 * 1024 + j.val := by omega
  exact match a with | 0 => rfl | 1 => h1

variable (b : Fin 8) (q : Fin 16) (eb : (grid0.coords t 0).val = b.val) (eq : (grid0.coords t 1).val = q.val)

include eb eq

theorem xwin_at (z : Fin 1) (p : Fin 512) (o : Fin 1024) : (iblk m c 0 t : Vec Ideal S1x512x1024 .f32) (ix3 z p o)
    = a0 m c (ix3 b ⟨q.val * 512 + p.val, by omega⟩ o) := by
  refine (read0 t (ix3 z p o) (V m c main_arg0) (ix3 b ⟨q.val * 512 + p.val, by omega⟩ o) fun a => ?_).trans
    (congrFun (V_main_arg0 m c) _)
  rw [(index_at t).1, eb, eq]
  have h0 : b.val = b.val * 1 + z.val := by omega
  have h2 : o.val = 0 * 1024 + o.val := by omega
  exact match a with | 0 => h0 | 1 => rfl | 2 => h2

theorem hwin_at (z : Fin 1) (g : Fin 2) (p : Fin 512) (d : Fin 256) : (iblk m c 1 t : Vec Ideal S1x2x512x256 .bf16) (ix4 z g p d)
    = a1 m c (ix3 b ⟨q.val * 512 + p.val, by omega⟩ ⟨g.val * 256 + d.val, by omega⟩) := by
  refine (read1 t (ix4 z g p d) (V m c main_v2) (ix4 b g ⟨q.val * 512 + p.val, by omega⟩ d) fun a => ?_).trans (heads_at m c b g _ d)
  rw [(index_at t).2.1, eb, eq]
  have h0 : b.val = b.val * 1 + z.val := by omega
  have h1 : g.val = 0 * 2 + g.val := by omega
  have h3 : d.val = 0 * 256 + d.val := by omega
  exact match a with | 0 => h0 | 1 => h1 | 2 => rfl | 3 => h3

theorem awin_at (z : Fin 1) (p : Fin 512) (o : Fin 512) : (iblk m c 2 t : Vec Ideal S1x512x512 .f32) (ix3 z p o)
    = a2 m c (ix3 b ⟨q.val * 512 + p.val, by omega⟩ o) := by
  refine (read2 t (ix3 z p o) (V m c main_arg2) (ix3 b ⟨q.val * 512 + p.val, by omega⟩ o) fun a => ?_).trans
    (congrFun (V_main_arg2 m c) _)
  rw [(index_at t).2.2.1, eb, eq]
  have h0 : b.val = b.val * 1 + z.val := by omega
  have h2 : o.val = 0 * 512 + o.val := by omega
  exact match a with | 0 => h0 | 1 => rfl | 2 => h2

theorem out_emb (z : Fin 1) (p : Fin 512) (o : Fin 1024) :
    (win0_7.blk t).view.emb (ix3 z p o : S1x512x1024.Idx) = (ix3 b ⟨q.val * 512 + p.val, by omega⟩ o : S8x8192x1024.Idx) := by
  refine emb7 t (ix3 z p o) (ix3 b ⟨q.val * 512 + p.val, by omega⟩ o) fun a => ?_
  rw [(index_at t).2.2.2.2.2.2.2.1, eb, eq]
  have h0 : b.val = b.val * 1 + z.val := by omega
  have h2 : o.val = 0 * 1024 + o.val := by omega
  exact match a with | 0 => h0 | 1 => rfl | 2 => h2

/-- The block's residual row is the reference's. -/
theorem res_eq (p : Fin 512) (o : Fin 1024) : res (iblk m c 0 t) (iblk m c 1 t) (iblk m c 2 t) (iblk m c 3 t) p o
    = Cert.Reference2Ideal.Out.rres (a0 m c) (a1 m c) (a2 m c) (a3 m c) b ⟨q.val * 512 + p.val, by omega⟩ o := by
  unfold res Cert.Reference2Ideal.Out.rres
  refine congrArg₂ (fun x y : EReal => x + y) (xwin_at m c t b q eb eq 0 p o) (Finset.sum_congr rfl fun x _ => ?_)
  refine congrArg₂ (fun x y : EReal => x * y) ?_ (pwin_at m c t x o)
  by_cases h1 : x.val < 256
  · have h2 : x.val < 512 := by omega
    rw [dif_pos h1, dif_pos h2, hwin_at m c t b q eb eq]
    exact congrArg (fun k => a1 m c (ix3 b ⟨q.val * 512 + p.val, by omega⟩ k)) (Fin.ext (by show 0 * 256 + x.val = x.val; omega))
  · by_cases h2 : x.val - 256 < 256
    · have h3 : x.val < 512 := by omega
      rw [dif_neg h1, dif_pos h2, dif_pos h3, hwin_at m c t b q eb eq]
      exact congrArg (fun k => a1 m c (ix3 b ⟨q.val * 512 + p.val, by omega⟩ k)) (Fin.ext (by show 1 * 256 + (x.val - 256) = x.val; omega))
    · have h3 : ¬x.val < 512 := by omega
      rw [dif_neg h1, dif_neg h2, dif_neg h3, awin_at m c t b q eb eq]
      exact congrArg (fun k => a2 m c (ix3 b ⟨q.val * 512 + p.val, by omega⟩ k)) (Fin.ext (by show x.val - 256 - 256 = x.val - 512; omega))

/-- The block a grid point leaves is the reference's result there. -/
theorem point (z : Fin 1) (p : Fin 512) (o : Fin 1024) :
    out0_7 (F := Ideal) (iblk m c 0 t) (iblk m c 1 t) (iblk m c 2 t) (iblk m c 3 t) (iblk m c 4 t) (iblk m c 5 t) (iblk m c 6 t) (ix3 z p o)
      = Cert.Reference2Ideal.Read.val_main_v20 (F := Ideal) (a0 m c) (a1 m c) (a2 m c) (a3 m c) (a4 m c) (a5 m c) (a6 m c)
          (ix3 b ⟨q.val * 512 + p.val, by omega⟩ o) := by
  refine (out_at _ _ _ _ _ _ _ p o z).trans (Eq.trans ?_ (Cert.Reference2Ideal.Out.v20_at _ _ _ _ _ _ _ b _ o).symm)
  have e1 : res (iblk m c 0 t) (iblk m c 1 t) (iblk m c 2 t) (iblk m c 3 t) p
      = Cert.Reference2Ideal.Out.rres (a0 m c) (a1 m c) (a2 m c) (a3 m c) b ⟨q.val * 512 + p.val, by omega⟩ := funext fun d => res_eq m c t b q eb eq p d
  have e2 : (fun d : Fin 1024 => (iblk m c 4 t : Vec Ideal S1x1024 .f32) (ix2 0 d)) = fun d => a4 m c (ix1 d) := funext fun d => gwin_at m c t d
  have e3 : (fun (d : Fin 1024) (f : Fin 4096) => (iblk m c 5 t : Vec Ideal S1024x4096 .bf16) (ix2 d f)) = fun d f => a5 m c (ix2 d f) :=
    funext fun d => funext fun f => uwin_at m c t d f
  have e4 : (fun f : Fin 4096 => (iblk m c 6 t : Vec Ideal S4096x1024 .bf16) (ix2 f o)) = fun f => a6 m c (ix2 f o) := funext fun f => dwin_at m c t f o
  exact (congrArg (fun r => mlp r _ _ _ o) e1).trans ((congrArg (fun r => mlp _ r _ _ o) e2).trans
    ((congrArg (fun r => mlp _ _ r _ o) e3).trans (congrArg (fun r => mlp _ _ _ r o) e4)))

end

/-- The grid point of a block of the result. -/
def pt (b : Fin 8) (q : Fin 16) : grid0.Coords := fun | 0 => b | 1 => q

theorem index_pt (b : Fin 8) (q : Fin 16) : cc0_transform_7 (pt b q) = ![b.val, q.val, 0] := by
  revert b q
  decide +kernel

theorem covers : win0_7.Covers :=
  win0_7.covers_of_indexMap_surj rfl (by decide) fun β => ⟨pt (β 0) (β 1), fun a => by
    refine (congrFun (index_pt (β 0) (β 1)) a).trans ?_
    have h2 : 0 = (β 2).val := (Nat.lt_one_iff.1 (β 2).isLt).symm
    exact match a with | 0 => rfl | 1 => rfl | 2 => h2⟩

end Cert.Kernel2Ideal.Out

end
-- ==== Proof.Out.Final.lean ====
/- The result array the output projection's run leaves. -/
module

public import proofs.«01_k».proof.Proof.Out.Value

@[expose] public section

set_option maxRecDepth 16384

noncomputable section

set_option maxHeartbeats 100000

namespace Cert.Kernel2Ideal.Out

open Idealize.ShloMosaic Idealize.ShloMosaic.TcCoe Idealize.SL.Sem Cert.Kernel2Ideal Cert.Kernel2Ideal.Gen Cert.OutMlp

variable (m : (ℓ : Loc nD τ sig) → Buf (Elt Ideal) ℓ) (c : Dev nD)

/-- An array that agrees with every grid point's block is what the run leaves. -/
theorem final_of (R : FVec Ideal S8x8192x1024 .f32)
    (hR : ∀ (t : Fin grid0.N) (b : Fin 8) (q : Fin 16), (grid0.coords t 0).val = b.val → (grid0.coords t 1).val = q.val →
      ∀ (z : Fin 1) (p : Fin 512) (o : Fin 1024),
        out0_7 (F := Ideal) (iblk m c 0 t) (iblk m c 1 t) (iblk m c 2 t) (iblk m c 3 t) (iblk m c 4 t) (iblk m c 5 t) (iblk m c 6 t) (ix3 z p o)
          = R (ix3 b ⟨q.val * 512 + p.val, by omega⟩ o)) : (dats m 0 c).arrAt 7 (cfgs 0).N = R := by
  refine (dats m 0 c).arrAt_eq_of_covers 7 R covers fun t hfl y => ?_
  have h0 : (grid0.coords t 0).val < 8 := (index_at t).2.2.2.2.2.2.2.2.1
  have h1 : (grid0.coords t 1).val < 16 := (index_at t).2.2.2.2.2.2.2.2.2
  have hB := hR t ⟨_, h0⟩ ⟨_, h1⟩ rfl rfl
  have ey : y = (ix3 (y 0) (y 1) (y 2) : S1x512x1024.Idx) := funext fun a => match a with | 0 => rfl | 1 => rfl | 2 => rfl
  rw [after0_7, ey]
  revert hB
  generalize out0_7 (F := Ideal) (iblk m c 0 t) (iblk m c 1 t) (iblk m c 2 t) (iblk m c 3 t) (iblk m c 4 t) (iblk m c 5 t) (iblk m c 6 t) = B
  intro hB
  refine (hB (y 0) (y 1) (y 2)).trans ?_
  exact congrArg R (out_emb t ⟨_, h0⟩ ⟨_, h1⟩ rfl rfl (y 0) (y 1) (y 2)).symm

/-- The result array after the run is the reference's. -/
theorem final : (dats m 0 c).arrAt 7 (cfgs 0).N
    = Cert.Reference2Ideal.Read.val_main_v20 (F := Ideal) (a0 m c) (a1 m c) (a2 m c) (a3 m c) (a4 m c) (a5 m c) (a6 m c) :=
  final_of m c _ fun t b q eb eq z p o => point m c t b q eb eq z p o

end Cert.Kernel2Ideal.Out

end
-- ==== Proof.Att.Defs.lean ====
/- The attention kernel's values, over any float type: one head's running maximum and weighted sum, chunk of 512 keys
   by chunk, and what the kernel stores at a grid point. -/
module

public import proofs.«01_k».proof.Proof.Gen.KernelIdeal.Frame
public import proofs.«01_k».proof.Proof.Gen.KernelIdeal.Skeleton

@[expose] public section

set_option maxRecDepth 16384

noncomputable section

namespace Cert.KernelIdeal.Att

open Idealize.ShloMosaic Idealize.SL.Sem Cert.KernelIdeal Cert.KernelIdeal.Gen

variable {F : FTy → Type} [FloatOps F]

theorem inbK (h : Fin 2) (n : ℕ) :
    ∀ a, (![0, h.val, 512 * (n % 16), 0] : Fin 4 → ℕ) a + S1x1x512x128.size a ≤ S1x2x8192x128.size a := by
  have := h.isLt
  have := Nat.mod_lt n (show 0 < 16 by decide)
  intro a
  fin_cases a
  · show 0 + 1 ≤ 1; omega
  · show h.val + 1 ≤ 2; omega
  · show 512 * (n % 16) + 512 ≤ 8192; omega
  · show 0 + 128 ≤ 128; omega

theorem inbV (h : Fin 2) (n : ℕ) :
    ∀ a, (![0, h.val, n % 16, 0, 0] : Fin 5 → ℕ) a + S1x1x1x80x512.size a ≤ S1x2x16x80x512.size a := by
  have := h.isLt
  have := Nat.mod_lt n (show 0 < 16 by decide)
  intro a
  fin_cases a
  · show 0 + 1 ≤ 1; omega
  · show h.val + 1 ≤ 2; omega
  · show n % 16 + 1 ≤ 16; omega
  · show 0 + 80 ≤ 80; omega
  · show 0 + 512 ≤ 512; omega

/-- The `n`-th chunk of 512 keys of head `h`. -/
def kblk (x1 : Vec F S1x2x8192x128 .bf16) (h : Fin 2) (n : ℕ) : Vec F S1x1x512x128 .bf16 :=
  View.ld x1 (Rect.unit (s := S1x2x8192x128) ![0, h.val, 512 * (n % 16), 0] S1x1x512x128.size (inbK h n))

/-- The values of the `n`-th chunk of 512 keys of head `h`, transposed, with the row of ones. -/
def vblk (x2 : Vec F S1x2x16x80x512 .bf16) (h : Fin 2) (n : ℕ) : Vec F S1x1x1x80x512 .bf16 :=
  View.ld x2 (Rect.unit (s := S1x2x16x80x512) ![0, h.val, n % 16, 0, 0] S1x1x1x80x512.size (inbV h n))

theorem ld_kblk (x1 : Vec F S1x2x8192x128 .bf16) (h : Fin 2) (n : ℕ) (off : Fin 4 → ℕ)
    (inb : ∀ a, off a + S1x1x512x128.size a ≤ S1x2x8192x128.size a) (e : off = ![0, h.val, 512 * (n % 16), 0]) :
    View.ld x1 (Rect.unit (s := S1x2x8192x128) off S1x1x512x128.size inb) = kblk x1 h n := by
  subst e; rfl

theorem ld_vblk (x2 : Vec F S1x2x16x80x512 .bf16) (h : Fin 2) (n : ℕ) (off : Fin 5 → ℕ)
    (inb : ∀ a, off a + S1x1x1x80x512.size a ≤ S1x2x16x80x512.size a) (e : off = ![0, h.val, n % 16, 0, 0]) :
    View.ld x2 (Rect.unit (s := S1x2x16x80x512) off S1x1x1x80x512.size inb) = vblk x2 h n := by
  subst e; rfl

theorem inbQ (h s : Fin 2) :
    ∀ a, (![0, h.val, s.val, 0, 0] : Fin 5 → ℕ) a + S1x1x1x128x512.size a ≤ S1x2x2x128x512.size a := by
  revert h s; decide

/-- Head `h`'s 1024 queries of the block, side by side. -/
def qmat (x0 : Vec F S1x2x2x128x512 .bf16) (h : Fin 2) : FVec F S128x1024 .bf16 :=
  k0_pay42 (View.ld x0 (Rect.unit (s := S1x2x2x128x512) ![0, h.val, (0 : Fin 2).val, 0, 0] S1x1x1x128x512.size (inbQ h 0)))
    (View.ld x0 (Rect.unit (s := S1x2x2x128x512) ![0, h.val, (1 : Fin 2).val, 0, 0] S1x1x1x128x512.size (inbQ h 1)))

/-- The scores of chunk `n`, with a unit axis. -/
def sc (q : FVec F S128x1024 .bf16) (x1 : Vec F S1x2x8192x128 .bf16) (h : Fin 2) (n : ℕ) : FVec F S1x512x1024 .f32 :=
  k0_pay3 q (kblk x1 h n)

/-- Their column maxima. -/
def cm (q : FVec F S128x1024 .bf16) (x1 : Vec F S1x2x8192x128 .bf16) (h : Fin 2) (n : ℕ) : FVec F S1x1024 .f32 :=
  k0_pay4 q (kblk x1 h n)

/-- The running maximum and weighted sum of head `h` after `n` chunks. -/
def st (q : FVec F S128x1024 .bf16) (x1 : Vec F S1x2x8192x128 .bf16) (x2 : Vec F S1x2x16x80x512 .bf16) (h : Fin 2) :
    ℕ → FVec F S1x1024 .f32 × FVec F S80x1024 .f32
  | 0 => (k0_pay44, k0_pay45)
  | n + 1 => (k0_pay5 (st q x1 x2 h n).1 (cm q x1 h n),
      k0_pay6 (st q x1 x2 h n).1 (st q x1 x2 h n).2 (cm q x1 h n) (sc q x1 h n) (vblk x2 h n))

/-- What the loop carries before chunk `n`. -/
def carry (q0 q1 : FVec F S128x1024 .bf16) (x1 : Vec F S1x2x8192x128 .bf16) (x2 : Vec F S1x2x16x80x512 .bf16) (n : ℕ) :
    FVec F S1x1024 .f32 × FVec F S80x1024 .f32 × FVec F S1x1024 .f32 × FVec F S80x1024 .f32 × FVec F S1x1024 .f32 × FVec F S1x1024 .f32 :=
  ((st q0 x1 x2 0 n).1, (st q0 x1 x2 0 n).2, (st q1 x1 x2 1 n).1, (st q1 x1 x2 1 n).2, cm q0 x1 0 n, cm q1 x1 1 n)

/-- The last step: each head's weighted values divided by its total weight, the heads side by side. -/
def fin (a0 a1 : FVec F S80x1024 .f32) : FVec F S1x1024x128 .f32 :=
  shapeCast S1x1024x128
    (transpose S1024x128 [1, 0]
      (concatenate S128x1024 0
        [⟨S64x1024, divf (extractStridedSlice S64x1024 ![0, 0] a0 slices_S80x1024_o0_0_S64x1024)
            (broadcastTo S64x1024 (extractStridedSlice S1x1024 ![64, 0] a0 slices_S80x1024_o64_0_S1x1024) broadcasts_S1x1024_S64x1024)⟩,
          ⟨S64x1024, divf (extractStridedSlice S64x1024 ![0, 0] a1 slices_S80x1024_o0_0_S64x1024)
            (broadcastTo S64x1024 (extractStridedSlice S1x1024 ![64, 0] a1 slices_S80x1024_o64_0_S1x1024) broadcasts_S1x1024_S64x1024)⟩]
        concatenates_S64x1024_S64x1024_S128x1024_d0)
      transposes_S128x1024_p1_0_S1024x128)
    shapeCasts_S1024x128_S1x1024x128

/-- What the kernel stores at a grid point, from its three input blocks. -/
def attOut (x0 : Vec F S1x2x2x128x512 .bf16) (x1 : Vec F S1x2x8192x128 .bf16) (x2 : Vec F S1x2x16x80x512 .bf16) : FVec F S1x1024x128 .f32 :=
  fin (st (qmat x0 0) x1 x2 0 16).2 (st (qmat x0 1) x1 x2 1 16).2

end Cert.KernelIdeal.Att

end
-- ==== Proof.Att.Pay.lean ====
/- The printed attention body spells the same few steps once per unrolled chunk: each spelling is one of the first. -/
module

public import proofs.«01_k».proof.Proof.Att.Defs

@[expose] public section

set_option maxRecDepth 16384

noncomputable section

namespace Cert.KernelIdeal.Att

open Idealize.ShloMosaic Idealize.SL.Sem Cert.KernelIdeal Cert.KernelIdeal.Gen

variable {F : FTy → Type} [FloatOps F]
variable (q : FVec F S128x1024 .bf16) (kb : Vec F S1x1x512x128 .bf16) (a m c : FVec F S1x1024 .f32)
variable (acc : FVec F S80x1024 .f32) (s : Vec F S1x512x1024 .f32) (v : Vec F S1x1x1x80x512 .bf16)
variable (u w : Vec F S1x1x1x128x512 .bf16)

theorem p7 : k0_pay7 q kb = k0_pay2 q kb := rfl
theorem p12 : k0_pay12 q kb = k0_pay2 q kb := rfl
theorem p17 : k0_pay17 q kb = k0_pay2 q kb := rfl
theorem p23 : k0_pay23 q kb = k0_pay2 q kb := rfl
theorem p30 : k0_pay30 q kb = k0_pay2 q kb := rfl
theorem p35 : k0_pay35 q kb = k0_pay2 q kb := rfl
theorem p40 : k0_pay40 q kb = k0_pay2 q kb := rfl
theorem p49 : k0_pay49 q kb = k0_pay2 q kb := rfl
theorem p55 : k0_pay55 q kb = k0_pay2 q kb := rfl
theorem p62 : k0_pay62 q kb = k0_pay2 q kb := rfl
theorem p73 : k0_pay73 q kb = k0_pay2 q kb := rfl
theorem p78 : k0_pay78 q kb = k0_pay2 q kb := rfl
theorem p86 : k0_pay86 q kb = k0_pay2 q kb := rfl
theorem p8 : k0_pay8 q kb = k0_pay3 q kb := rfl
theorem p13 : k0_pay13 q kb = k0_pay3 q kb := rfl
theorem p18 : k0_pay18 q kb = k0_pay3 q kb := rfl
theorem p24 : k0_pay24 q kb = k0_pay3 q kb := rfl
theorem p31 : k0_pay31 q kb = k0_pay3 q kb := rfl
theorem p36 : k0_pay36 q kb = k0_pay3 q kb := rfl
theorem p41 : k0_pay41 q kb = k0_pay3 q kb := rfl
theorem p50 : k0_pay50 q kb = k0_pay3 q kb := rfl
theorem p56 : k0_pay56 q kb = k0_pay3 q kb := rfl
theorem p63 : k0_pay63 q kb = k0_pay3 q kb := rfl
theorem p74 : k0_pay74 q kb = k0_pay3 q kb := rfl
theorem p79 : k0_pay79 q kb = k0_pay3 q kb := rfl
theorem p87 : k0_pay87 q kb = k0_pay3 q kb := rfl
theorem p9 : k0_pay9 q kb = k0_pay4 q kb := rfl
theorem p19 : k0_pay19 q kb = k0_pay4 q kb := rfl
theorem p25 : k0_pay25 q kb = k0_pay4 q kb := rfl
theorem p32 : k0_pay32 q kb = k0_pay4 q kb := rfl
theorem p37 : k0_pay37 q kb = k0_pay4 q kb := rfl
theorem p51 : k0_pay51 q kb = k0_pay4 q kb := rfl
theorem p57 : k0_pay57 q kb = k0_pay4 q kb := rfl
theorem p64 : k0_pay64 q kb = k0_pay4 q kb := rfl
theorem p75 : k0_pay75 q kb = k0_pay4 q kb := rfl
theorem p80 : k0_pay80 q kb = k0_pay4 q kb := rfl
theorem p88 : k0_pay88 q kb = k0_pay4 q kb := rfl
theorem p14 : k0_pay14 (k0_pay2 q kb) = k0_pay4 q kb := rfl
theorem p52 : k0_pay52 (k0_pay2 q kb) = k0_pay4 q kb := rfl
theorem p43 : k0_pay43 u w = k0_pay42 u w := rfl
theorem p46 : k0_pay46 u w kb = k0_pay2 (k0_pay42 u w) kb := rfl
theorem p47 : k0_pay47 u w kb = k0_pay3 (k0_pay42 u w) kb := rfl
theorem p48 : k0_pay48 u w kb = k0_pay4 (k0_pay42 u w) kb := rfl
theorem p68 : k0_pay68 q (k0_pay67 kb) (constant S512x1024 .f32 0x00000000#32) = k0_pay2 q kb := rfl
theorem p69 : k0_pay69 q (k0_pay67 kb) (constant S512x1024 .f32 0x00000000#32) = k0_pay3 q kb := rfl
theorem p70 : k0_pay70 q (k0_pay67 kb) (constant S512x1024 .f32 0x00000000#32) = k0_pay4 q kb := rfl
theorem p10 : k0_pay10 m c = k0_pay5 m c := rfl
theorem p58 : k0_pay58 m c = k0_pay5 m c := rfl
theorem p65 : k0_pay65 m c = k0_pay5 m c := rfl
theorem p15 : k0_pay15 c m = k0_pay5 m c := rfl
theorem p20 : k0_pay20 c m = k0_pay5 m c := rfl
theorem p26 : k0_pay26 c m = k0_pay5 m c := rfl
theorem p33 : k0_pay33 c m = k0_pay5 m c := rfl
theorem p38 : k0_pay38 c m = k0_pay5 m c := rfl
theorem p53 : k0_pay53 c m = k0_pay5 m c := rfl
theorem p71 : k0_pay71 c m = k0_pay5 m c := rfl
theorem p76 : k0_pay76 c m = k0_pay5 m c := rfl
theorem p81 : k0_pay81 c m = k0_pay5 m c := rfl
theorem p89 : k0_pay89 c m = k0_pay5 m c := rfl
theorem p91 : k0_pay91 c m = k0_pay5 m c := rfl
theorem p11 : k0_pay11 m acc c s v = k0_pay6 m acc c s v := rfl
theorem p66 : k0_pay66 m acc c s v = k0_pay6 m acc c s v := rfl
theorem p16 : k0_pay16 c m acc s v = k0_pay6 m acc c s v := rfl
theorem p34 : k0_pay34 c m acc s v = k0_pay6 m acc c s v := rfl
theorem p39 : k0_pay39 c m acc s v = k0_pay6 m acc c s v := rfl
theorem p54 : k0_pay54 c m acc s v = k0_pay6 m acc c s v := rfl
theorem p72 : k0_pay72 c m acc s v = k0_pay6 m acc c s v := rfl
theorem p90 : k0_pay90 c m acc s v = k0_pay6 m acc c s v := rfl
theorem p22 : k0_pay22 m acc (k0_pay5 m c) (k0_pay21 c m s) v = k0_pay6 m acc c s v := rfl
theorem p29 : k0_pay29 (k0_pay27 c m s) (k0_pay28 c m acc) v = k0_pay6 m acc c s v := rfl
theorem p61 : k0_pay61 (k0_pay59 m c s) (k0_pay60 m acc c) v = k0_pay6 m acc c s v := rfl
theorem p77 : k0_pay77 m acc (k0_pay5 m c) s v = k0_pay6 m acc c s v := rfl
theorem p85 : k0_pay85 (k0_pay82 c m s) (k0_pay83 c m acc) (k0_pay84 v) = k0_pay6 m acc c s v := rfl
theorem p1 (m' c' : FVec F S1x1024 .f32) (acc' : FVec F S80x1024 .f32) (s' : Vec F S1x512x1024 .f32) (v' : Vec F S1x1x1x80x512 .bf16) :
    k0_pay1 acc c' m' acc' (k0_pay92 c m s) (k0_pay93 c m) v s' v' = fin (k0_pay6 m acc c s v) (k0_pay6 m' acc' c' s' v') := rfl

end Cert.KernelIdeal.Att

end
-- ==== Proof.Att.Loop.lean ====
/- The attention kernel's loop over the chunks of keys: before trip `k` it carries what the first `4 k` chunks give, and
   the first score buffer holds both heads' scores of chunk `4 k`. -/
module

public import proofs.«01_k».proof.Proof.Att.Pay
public import proofs.«01_k».proof.Proof.Gen.KernelIdeal.Loops
public import Idealize.ShloMosaic.Lib.Pipeline.ReadBack

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The slab of one head in a score buffer. -/
abbrev slab0 : Rect S2x512x1024 := Rect.unit (s := S2x512x1024) ![0, 0, 0] S1x512x1024.size inb_S2x512x1024_S1x512x1024_0_0_0
abbrev slab1 : Rect S2x512x1024 := Rect.unit (s := S2x512x1024) ![1, 0, 0] S1x512x1024.size inb_S2x512x1024_S1x512x1024_1_0_0

/-- A piece read back right after it was stored. -/
theorem read_cons {S : Shape} {e : EltTy} (v : View sig .tc .vmem S e) (f : v.ty.Contents (Elt F)) (r : Rect S) (w : r.shape.Idx → Elt F e)
    (L : List (View.Piece (Elt F) S e)) : v.readAt (Elt F) r.toLoadRect (v.writes (Elt F) f (⟨r, w⟩ :: L)) = w :=
  (View.readAt_writes_of_cover v f _ _ fun j => ⟨_, List.mem_cons_self, r.idx_mem j⟩).trans (View.readCov_cons_toLoadRect ..)
/-- A piece read back after a second one, beside it, was stored. -/
theorem read_cons_cons {S : Shape} {e : EltTy} (v : View sig .tc .vmem S e) (f : v.ty.Contents (Elt F)) (r r' : Rect S) (w : r.shape.Idx → Elt F e)
    (w' : r'.shape.Idx → Elt F e) (L : List (View.Piece (Elt F) S e)) (h : LoadRect.disj r' r.toLoadRect = true) :
    v.readAt (Elt F) r.toLoadRect (v.writes (Elt F) f (⟨r', w'⟩ :: ⟨r, w⟩ :: L)) = w :=
  (View.readAt_writes_of_cover v f _ _ fun j => ⟨_, List.mem_cons_of_mem _ List.mem_cons_self, r.idx_mem j⟩).trans
    ((View.readCov_skip v r' w' _ _ h).trans (View.readCov_cons_toLoadRect ..))
/-- Head 1's scores read back after both heads' were stored. -/
theorem slab1_read (v : View sig .tc .vmem S2x512x1024 .f32) (f : v.ty.Contents (Elt F)) (w : slab1.shape.Idx → Elt F .f32)
    (L : List (View.Piece (Elt F) S2x512x1024 .f32)) :
    v.readAt (Elt F) slab1.toLoadRect (v.writes (Elt F) f (⟨slab1, w⟩ :: L)) = w := read_cons v f slab1 w L
/-- Head 0's likewise. -/
theorem slab0_read (v : View sig .tc .vmem S2x512x1024 .f32) (f : v.ty.Contents (Elt F)) (w : slab0.shape.Idx → Elt F .f32)
    (w' : slab1.shape.Idx → Elt F .f32) (L : List (View.Piece (Elt F) S2x512x1024 .f32)) :
    v.readAt (Elt F) slab0.toLoadRect (v.writes (Elt F) f (⟨slab1, w'⟩ :: ⟨slab0, w⟩ :: L)) = w :=
  read_cons_cons v f slab0 slab1 w w' L (by decide)

/-- The keys and values the loop's trip `k` loads. -/
theorem key0 (x1 : Vec F S1x2x8192x128 .bf16) (k : Fin k0_t1_loop.trips) (hk : k.val < 3) (r : Fin 4) (w : BitVec 32) (hw : w = BitVec.ofNat 32 r.val)
    (n : ℕ) (hn : n = 4 * k.val + r.val + 1) (inb) :
    View.ld x1 (Rect.unit (s := S1x2x8192x128) (k0_off1 k w) S1x1x512x128.size inb) = kblk x1 0 n :=
  ld_kblk x1 0 _ _ inb (by
    subst hw hn; rw [k0_off1_eq]; have := r.isLt
    have e : 512 * ((4 * k.val + r.val + 1) % 16) = 2048 * k.val + 512 * r.val + 512 := by omega
    rw [e]; rfl)
theorem key1 (x1 : Vec F S1x2x8192x128 .bf16) (k : Fin k0_t1_loop.trips) (hk : k.val < 3) (r : Fin 4) (w : BitVec 32) (hw : w = BitVec.ofNat 32 r.val)
    (n : ℕ) (hn : n = 4 * k.val + r.val + 1) (inb) :
    View.ld x1 (Rect.unit (s := S1x2x8192x128) (k0_off3 k w) S1x1x512x128.size inb) = kblk x1 1 n :=
  ld_kblk x1 1 _ _ inb (by
    subst hw hn; rw [k0_off3_eq]; have := r.isLt
    have e : 512 * ((4 * k.val + r.val + 1) % 16) = 2048 * k.val + 512 * r.val + 512 := by omega
    rw [e]; rfl)
theorem val0 (x2 : Vec F S1x2x16x80x512 .bf16) (k : Fin k0_t1_loop.trips) (hk : k.val < 3) (r : Fin 4) (w : BitVec 32) (hw : w = BitVec.ofNat 32 r.val)
    (n : ℕ) (hn : n = 4 * k.val + r.val) (inb) :
    View.ld x2 (Rect.unit (s := S1x2x16x80x512) (k0_off2 k w) S1x1x1x80x512.size inb) = vblk x2 0 n :=
  ld_vblk x2 0 _ _ inb (by
    subst hw hn; rw [k0_off2_eq]; have := r.isLt
    have e : (4 * k.val + r.val) % 16 = 4 * k.val + r.val := by omega
    rw [e]; rfl)
theorem val1 (x2 : Vec F S1x2x16x80x512 .bf16) (k : Fin k0_t1_loop.trips) (hk : k.val < 3) (r : Fin 4) (w : BitVec 32) (hw : w = BitVec.ofNat 32 r.val)
    (n : ℕ) (hn : n = 4 * k.val + r.val) (inb) :
    View.ld x2 (Rect.unit (s := S1x2x16x80x512) (k0_off4 k w) S1x1x1x80x512.size inb) = vblk x2 1 n :=
  ld_vblk x2 1 _ _ inb (by
    subst hw hn; rw [k0_off4_eq]; have := r.isLt
    have e : (4 * k.val + r.val) % 16 = 4 * k.val + r.val := by omega
    rw [e]; rfl)

abbrev inv (c : Dev nD) (arg4 : Memref sig .tc .vmem S1x2x8192x128 .bf16) (harg4 : arg4.IsWhole) (arg5 : Memref sig .tc .vmem S1x2x16x80x512 .bf16) (harg5 : arg5.IsWhole)
    (arg7 arg8 : Memref sig .tc .vmem S2x512x1024 .f32) (q0 q1 : FVec F S128x1024 .bf16)
    (x1 : Vec F S1x2x8192x128 .bf16) (x2 : Vec F S1x2x16x80x512 .bf16) (k : ℕ)
    (acc : FVec F S1x1024 .f32 × FVec F S80x1024 .f32 × FVec F S1x1024 .f32 × FVec F S80x1024 .f32 × FVec F S1x1024 .f32 × FVec F S1x1024 .f32) :
    sProp (MT nD τ sig Unit (Elt F) ℕ (UR sig nD τ) ℕ) :=
  iprop((arg4.view.loc (c : Thread nD τ) ↦[arg4.view.set]{fullShare} harg4.unread x1) ∗ (arg5.view.loc (c : Thread nD τ) ↦[arg5.view.set]{fullShare} harg5.unread x2)
    ∗ (∃ f, (arg7.view.loc (c : Thread nD τ) ↦[arg7.view.set]{fullShare} f)
        ∗ ⌜arg7.view.readAt (Elt F) slab0.toLoadRect f = sc q0 x1 0 (4 * k) ∧ arg7.view.readAt (Elt F) slab1.toLoadRect f = sc q1 x1 1 (4 * k)⌝)
    ∗ (∃ f, arg8.view.loc (c : Thread nD τ) ↦[arg8.view.set]{fullShare} f)
    ∗ ⌜acc = carry q0 q1 x1 x2 (4 * k)⌝)

set_option maxHeartbeats 4000000 in
set_option warn.classDefReducibility false in
/-- The loop by its invariant. -/
@[sl_loop] def loopInv (𝒱 : Variants) (c : Dev nD) (bd : Option 𝒱.V) (E : Set ℕ) (i : grid0.Coords) (arg3 : Memref sig .tc .vmem S1x2x2x128x512 .bf16) (harg3 : arg3.IsWhole) (arg4 : Memref sig .tc .vmem S1x2x8192x128 .bf16) (harg4 : arg4.IsWhole) (arg5 : Memref sig .tc .vmem S1x2x16x80x512 .bf16) (harg5 : arg5.IsWhole) (arg6 : Memref sig .tc .vmem S1x1024x128 .f32) (harg6 : arg6.IsWhole) (arg7 : Memref sig .tc .vmem S2x512x1024 .f32) (harg7 : arg7.IsWhole) (arg8 : Memref sig .tc .vmem S2x512x1024 .f32) (harg8 : arg8.IsWhole) (v4 v9 : FVec F S128x1024 .bf16) (v10 : FVec F S1x1024 .f32) (v11 : FVec F S80x1024 .f32) (v21 : FVec F S1x1024 .f32) (v22 : BitVec 32)
    (x1 : Vec F S1x2x8192x128 .bf16) (x2 : Vec F S1x2x16x80x512 .bf16)
    (init : FVec F S1x1024 .f32 × FVec F S80x1024 .f32 × FVec F S1x1024 .f32 × FVec F S80x1024 .f32 × FVec F S1x1024 .f32 × FVec F S1x1024 .f32) :
    LoopInvTy_k0_t1 (F := F) Unit ℕ (UR sig nD τ) ℕ 𝒱 c bd E i arg3 harg3 arg4 harg4 arg5 harg5 arg6 harg6 arg7 harg7 arg8 harg8 v4 v9 v10 v11 v21 v22 init where
  inv := inv (F := F) c arg4 harg4 arg5 harg5 arg7 arg8 v4 v9 x1 x2
  step k acc := by
    have hk : k.val < 3 := Nat.lt_of_lt_of_le k.isLt k0_t1_abs.2.1
    iintro ⟨HR_arg4, HR_arg5, ⟨%f_arg7, HW_arg7, %h_arg7⟩, ⟨%f_arg8, HW_arg8⟩, %h_acc⟩
    subst h_acc
    unfold k0_t1_body
    sl_exec
    sl_step
    isplitl [HR_arg4]; · iexact HR_arg4
    isplitl [HR_arg5]; · iexact HR_arg5
    have h0 := h_arg7.1
    have h1 := h_arg7.2
    isplitl [HW_arg7]
    · iexists _; isplitl [HW_arg7]; · iexact HW_arg7
      ipureintro
      have e4 : 4 * (k.val + 1) = 4 * k.val + 3 + 1 := by omega
      rw [e4]
      refine ⟨(slab0_read ..).trans ?_, (slab1_read ..).trans ?_⟩
      · rw [p36, View.readAt_eq_ld, Memref.IsWhole.read_unread]; exact congrArg _ (key0 x1 k hk 3 _ rfl _ rfl _)
      · rw [p41, View.readAt_eq_ld, Memref.IsWhole.read_unread]; exact congrArg _ (key1 x1 k hk 3 _ rfl _ rfl _)
    isplitl [HW_arg8]
    · iexists _; iexact HW_arg8
    ipureintro
    sl_unfold_run_names
    have e4 : 4 * (k.val + 1) = 4 * k.val + 1 + 1 + 1 + 1 := by omega
    have kk0 := key0 x1 k hk 0 0#32 rfl (4 * k.val + 1) rfl
    have kk1 := key0 x1 k hk 1 1#32 rfl (4 * k.val + 1 + 1) rfl
    have kk2 := key0 x1 k hk 2 2#32 rfl (4 * k.val + 1 + 1 + 1) rfl
    have kk3 := key0 x1 k hk 3 3#32 rfl (4 * k.val + 1 + 1 + 1 + 1) rfl
    have kl0 := key1 x1 k hk 0 0#32 rfl (4 * k.val + 1) rfl
    have kl1 := key1 x1 k hk 1 1#32 rfl (4 * k.val + 1 + 1) rfl
    have kl2 := key1 x1 k hk 2 2#32 rfl (4 * k.val + 1 + 1 + 1) rfl
    have kl3 := key1 x1 k hk 3 3#32 rfl (4 * k.val + 1 + 1 + 1 + 1) rfl
    have kv0 := val0 x2 k hk 0 0#32 rfl (4 * k.val) rfl
    have kv1 := val0 x2 k hk 1 1#32 rfl (4 * k.val + 1) rfl
    have kv2 := val0 x2 k hk 2 2#32 rfl (4 * k.val + 1 + 1) rfl
    have kv3 := val0 x2 k hk 3 3#32 rfl (4 * k.val + 1 + 1 + 1) rfl
    have kw0 := val1 x2 k hk 0 0#32 rfl (4 * k.val) rfl
    have kw1 := val1 x2 k hk 1 1#32 rfl (4 * k.val + 1) rfl
    have kw2 := val1 x2 k hk 2 2#32 rfl (4 * k.val + 1 + 1) rfl
    have kw3 := val1 x2 k hk 3 3#32 rfl (4 * k.val + 1 + 1 + 1) rfl
    simp (disch := decide) only [↓ View.readCov_skip, ↓ View.readCov_cons_toLoadRect, ↓ View.readCov_fill]
    simp only [h0, h1, View.readAt_eq_ld, Memref.IsWhole.read_unread]
    simp only [kk0, kk1, kk2, kk3, kl0, kl1, kl2, kl3, kv0, kv1, kv2, kv3, kw0, kw1, kw2, kw3, carry]
    simp only [p7, p12, p17, p23, p30, p35, p40, p49, p55, p62, p73, p78, p86, p8, p13, p18, p24, p31, p36, p41, p50, p56, p63, p74, p79, p87, p9, p19, p25, p32, p37, p51, p57, p64, p75, p80, p88, p14, p52, p43, p46, p47, p48, p68, p69, p70, p10, p58, p65, p15, p20, p26, p33, p38, p53, p71, p76, p81, p89, p91, p11, p66, p16, p34, p39, p54, p72, p90, p22, p29, p61, p77, p85, p1]
    rw [e4]
    simp only [st, sc, cm]

end Cert.KernelIdeal.Att

end
-- ==== Proof.Att.Body.lean ====
/- What the attention kernel's body does at a grid point: it stores `attOut` of its three input blocks. -/
module

public import proofs.«01_k».proof.Proof.Att.Loop

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

theorem trips_eq : k0_t1_loop.trips = 3 := by decide +kernel

/-- Four more chunks of head `h`, from the running maximum and weighted sum `p` after `n`. -/
def four (q : FVec F S128x1024 .bf16) (x1 : Vec F S1x2x8192x128 .bf16) (x2 : Vec F S1x2x16x80x512 .bf16) (h : Fin 2) (n : ℕ)
    (p : FVec F S1x1024 .f32 × FVec F S80x1024 .f32) : FVec F S80x1024 .f32 :=
  k0_pay6 (k0_pay5 (k0_pay5 (k0_pay5 p.1 (cm q x1 h n)) (k0_pay4 q (kblk x1 h (n + 1)))) (k0_pay4 q (kblk x1 h (n + 2))))
    (k0_pay6 (k0_pay5 (k0_pay5 p.1 (cm q x1 h n)) (k0_pay4 q (kblk x1 h (n + 1))))
      (k0_pay6 (k0_pay5 p.1 (cm q x1 h n))
        (k0_pay6 p.1 p.2 (cm q x1 h n) (sc q x1 h n) (vblk x2 h n))
        (k0_pay4 q (kblk x1 h (n + 1))) (k0_pay3 q (kblk x1 h (n + 1))) (vblk x2 h (n + 1)))
      (k0_pay4 q (kblk x1 h (n + 2))) (k0_pay3 q (kblk x1 h (n + 2))) (vblk x2 h (n + 2)))
    (k0_pay4 q (kblk x1 h (n + 3))) (k0_pay3 q (kblk x1 h (n + 3))) (vblk x2 h (n + 3))

theorem st_four (q : FVec F S128x1024 .bf16) (x1 : Vec F S1x2x8192x128 .bf16) (x2 : Vec F S1x2x16x80x512 .bf16) (h : Fin 2) (n : ℕ) :
    (st q x1 x2 h (n + 4)).2 = four q x1 x2 h n (st q x1 x2 h n) := by
  simp only [st, sc, cm, four]

theorem attOut_eq (x0 : Vec F S1x2x2x128x512 .bf16) (x1 : Vec F S1x2x8192x128 .bf16) (x2 : Vec F S1x2x16x80x512 .bf16)
    (n : ℕ) (hn : n + 4 = 16) :
    attOut x0 x1 x2 = fin (four (qmat x0 0) x1 x2 0 n (st (qmat x0 0) x1 x2 0 n)) (four (qmat x0 1) x1 x2 1 n (st (qmat x0 1) x1 x2 1 n)) := by
  unfold attOut
  rw [← hn, st_four, st_four]

set_option maxHeartbeats 600000 in
theorem body_run (c : Dev nD) (i : grid0.Coords) (arg3 : Memref sig .tc .vmem S1x2x2x128x512 .bf16) (harg3 : arg3.IsWhole) (arg4 : Memref sig .tc .vmem S1x2x8192x128 .bf16) (harg4 : arg4.IsWhole) (arg5 : Memref sig .tc .vmem S1x2x16x80x512 .bf16) (harg5 : arg5.IsWhole) (arg6 : Memref sig .tc .vmem S1x1024x128 .f32) (harg6 : arg6.IsWhole) (arg7 : Memref sig .tc .vmem S2x512x1024 .f32) (harg7 : arg7.IsWhole) (arg8 : Memref sig .tc .vmem S2x512x1024 .f32) (harg8 : arg8.IsWhole)
    (x0 : Vec F S1x2x2x128x512 .bf16) (x1 : Vec F S1x2x8192x128 .bf16) (x2 : Vec F S1x2x16x80x512 .bf16) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2
      ∗ (∃ d, owns (c : Thread nD τ) arg6 fullShare d) ∗ (∃ d, owns (c : Thread nD τ) arg7 fullShare d) ∗ (∃ d, owns (c : Thread nD τ) arg8 fullShare d)
      ∗ (iprop(owns (c : Thread nD τ) arg3 fullShare x0 ∗ owns (c : Thread nD τ) arg4 fullShare x1 ∗ owns (c : Thread nD τ) arg5 fullShare x2
          ∗ owns (c : Thread nD τ) arg6 fullShare (attOut x0 x1 x2) ∗ (∃ d, owns (c : Thread nD τ) arg7 fullShare d) ∗ (∃ d, owns (c : Thread nD τ) arg8 fullShare d)) -∗ K ⟨⟩))
      ⊢ wp frame (wpE (defs₀ (F := F)) Variants.none c none) E (cc0_attention i arg3 harg3 arg4 harg4 arg5 harg5 arg6 harg6 arg7 harg7 arg8 harg8) K := by
  simp only [cc0_attention_eq_skeleton]
  unfold cc0_attention_skel
  simp only [k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
  obtain rfl := harg3.eq_unread hf0
  obtain rfl := harg4.eq_unread hf1
  obtain rfl := harg5.eq_unread hf2
  set_option sl_exec.maxSteps 13 in sl_exec
  sl_for (inv (F := F) c arg4 harg4 arg5 harg5 arg7 arg8 (qmat x0 0) (qmat x0 1) x1 x2) $$ [H1 H2 HS0 HS1]
  case region =>
    intro k acc
    sl_unfold_run_names
    simp only [p43, View.readAt_eq_ld, Memref.IsWhole.read_unread]
    exact (loopInv (F := F) Variants.none c none E i arg3 harg3 arg4 harg4 arg5 harg5 arg6 harg6 arg7 harg7 arg8 harg8 (qmat x0 0) (qmat x0 1) k0_pay44 k0_pay45 _ _ x1 x2 (k0_pay44, k0_pay45, k0_pay44, k0_pay45, k0_pay44, k0_pay44)).step k acc
  · isplitl [H1]; · iexact H1
    isplitl [H2]; · iexact H2
    isplitl [HS0]
    · iexists _; isplitl [HS0]; · iexact HS0
      ipureintro
      sl_unfold_run_names
      refine ⟨(slab0_read ..).trans ?_, (slab1_read ..).trans ?_⟩
      · simp only [p7, p12, p17, p23, p30, p35, p40, p49, p55, p62, p73, p78, p86, p8, p13, p18, p24, p31, p36, p41, p50, p56, p63, p74, p79, p87, p9, p19, p25, p32, p37, p51, p57, p64, p75, p80, p88, p14, p52, p43, p46, p47, p48, p68, p69, p70, p10, p58, p65, p15, p20, p26, p33, p38, p53, p71, p76, p81, p89, p91, p11, p66, p16, p34, p39, p54, p72, p90, p22, p29, p61, p77, p85, p1, View.readAt_eq_ld, Memref.IsWhole.read_unread]; exact congrArg _ (ld_kblk x1 0 0 _ _ rfl)
      · simp only [p7, p12, p17, p23, p30, p35, p40, p49, p55, p62, p73, p78, p86, p8, p13, p18, p24, p31, p36, p41, p50, p56, p63, p74, p79, p87, p9, p19, p25, p32, p37, p51, p57, p64, p75, p80, p88, p14, p52, p43, p46, p47, p48, p68, p69, p70, p10, p58, p65, p15, p20, p26, p33, p38, p53, p71, p76, p81, p89, p91, p11, p66, p16, p34, p39, p54, p72, p90, p22, p29, p61, p77, p85, p1, View.readAt_eq_ld, Memref.IsWhole.read_unread]; exact congrArg _ (ld_kblk x1 1 0 _ _ rfl)
    isplitl [HS1]; · iexists _; iexact HS1
    ipureintro
    sl_unfold_run_names
    simp only [p7, p12, p17, p23, p30, p35, p40, p49, p55, p62, p73, p78, p86, p8, p13, p18, p24, p31, p36, p41, p50, p56, p63, p74, p79, p87, p9, p19, p25, p32, p37, p51, p57, p64, p75, p80, p88, p14, p52, p43, p46, p47, p48, p68, p69, p70, p10, p58, p65, p15, p20, p26, p33, p38, p53, p71, p76, p81, p89, p91, p11, p66, p16, p34, p39, p54, p72, p90, p22, p29, p61, p77, p85, p1, View.readAt_eq_ld, Memref.IsWhole.read_unread]
    have k0 := ld_kblk x1 0 0 ![0, 0, 0, 0] inb_S1x2x8192x128_S1x1x512x128_0_0_0_0 rfl
    have k1 := ld_kblk x1 1 0 ![0, 1, 0, 0] inb_S1x2x8192x128_S1x1x512x128_0_1_0_0 rfl
    rw [k0, k1]
    simp only [carry, st, cm, qmat]
    rfl
  iintro %acc ⟨H1, H2, ⟨%g7, HS0, %h7⟩, ⟨%g8, HS1⟩, %hacc⟩
  subst hacc
  sl_exec
  sl_step
  iapply Hk
  isplitl [H0]; · iexists _; isplitr; · ipureintro; exact harg3.read_unread x0
                  iexact H0
  isplitl [H1]; · iexists _; isplitr; · ipureintro; exact harg4.read_unread x1
                  iexact H1
  isplitl [H2]; · iexists _; isplitr; · ipureintro; exact harg5.read_unread x2
                  iexact H2
  isplitl [H3]
  · iexists _; isplitr; swap; · iexact H3
    ipureintro
    refine (View.read_writes_eq_canon _ _ _ (fun y => View.cover_of_tiled [⟨Rect.unit (s := S1x1024x128) ![0, 0, 0] S1x1024x128.size inb_S1x1024x128_S1x1024x128_0_0_0, _⟩] S1x1024x128.size (by rfl) y)).trans ?_
    sl_unfold_run_names
    have e12 : 4 * k0_t1_loop.trips = 12 := by rw [trips_eq]
    rw [e12] at h7 ⊢
    have h0 := h7.1
    have h1 := h7.2
    have kk1 := ld_kblk x1 0 13 ![0, 0, 6656, 0] inb_S1x2x8192x128_S1x1x512x128_0_0_6656_0 rfl
    have kk2 := ld_kblk x1 0 14 ![0, 0, 7168, 0] inb_S1x2x8192x128_S1x1x512x128_0_0_7168_0 rfl
    have kk3 := ld_kblk x1 0 15 ![0, 0, 7680, 0] inb_S1x2x8192x128_S1x1x512x128_0_0_7680_0 rfl
    have kl1 := ld_kblk x1 1 13 ![0, 1, 6656, 0] inb_S1x2x8192x128_S1x1x512x128_0_1_6656_0 rfl
    have kl2 := ld_kblk x1 1 14 ![0, 1, 7168, 0] inb_S1x2x8192x128_S1x1x512x128_0_1_7168_0 rfl
    have kl3 := ld_kblk x1 1 15 ![0, 1, 7680, 0] inb_S1x2x8192x128_S1x1x512x128_0_1_7680_0 rfl
    have kv0 := ld_vblk x2 0 12 ![0, 0, 12, 0, 0] inb_S1x2x16x80x512_S1x1x1x80x512_0_0_12_0_0 rfl
    have kv1 := ld_vblk x2 0 13 ![0, 0, 13, 0, 0] inb_S1x2x16x80x512_S1x1x1x80x512_0_0_13_0_0 rfl
    have kv2 := ld_vblk x2 0 14 ![0, 0, 14, 0, 0] inb_S1x2x16x80x512_S1x1x1x80x512_0_0_14_0_0 rfl
    have kv3 := ld_vblk x2 0 15 ![0, 0, 15, 0, 0] inb_S1x2x16x80x512_S1x1x1x80x512_0_0_15_0_0 rfl
    have kw0 := ld_vblk x2 1 12 ![0, 1, 12, 0, 0] inb_S1x2x16x80x512_S1x1x1x80x512_0_1_12_0_0 rfl
    have kw1 := ld_vblk x2 1 13 ![0, 1, 13, 0, 0] inb_S1x2x16x80x512_S1x1x1x80x512_0_1_13_0_0 rfl
    have kw2 := ld_vblk x2 1 14 ![0, 1, 14, 0, 0] inb_S1x2x16x80x512_S1x1x1x80x512_0_1_14_0_0 rfl
    have kw3 := ld_vblk x2 1 15 ![0, 1, 15, 0, 0] inb_S1x2x16x80x512_S1x1x1x80x512_0_1_15_0_0 rfl
    simp (disch := decide) only [↓ View.readCov_skip, ↓ View.readCov_cons_toLoadRect, ↓ View.readCov_fill]
    simp only [h0, h1, View.readAt_eq_ld, Memref.IsWhole.read_unread]
    simp only [kk1, kk2, kk3, kl1, kl2, kl3, kv0, kv1, kv2, kv3, kw0, kw1, kw2, kw3, carry]
    simp only [p7, p12, p17, p23, p30, p35, p40, p49, p55, p62, p73, p78, p86, p8, p13, p18, p24, p31, p36, p41, p50, p56, p63, p74, p79, p87, p9, p19, p25, p32, p37, p51, p57, p64, p75, p80, p88, p14, p52, p43, p46, p47, p48, p68, p69, p70, p10, p58, p65, p15, p20, p26, p33, p38, p53, p71, p76, p81, p89, p91, p11, p66, p16, p34, p39, p54, p72, p90, p22, p29, p61, p77, p85, p1]
    have q0 : k0_pay42 (View.ld x0 (Rect.unit (s := S1x2x2x128x512) ![0, 0, 0, 0, 0] S1x1x1x128x512.size inb_S1x2x2x128x512_S1x1x1x128x512_0_0_0_0_0))
      (View.ld x0 (Rect.unit (s := S1x2x2x128x512) ![0, 0, 1, 0, 0] S1x1x1x128x512.size inb_S1x2x2x128x512_S1x1x1x128x512_0_0_1_0_0)) = qmat x0 0 := rfl
    have q1 : k0_pay42 (View.ld x0 (Rect.unit (s := S1x2x2x128x512) ![0, 1, 0, 0, 0] S1x1x1x128x512.size inb_S1x2x2x128x512_S1x1x1x128x512_0_1_0_0_0))
      (View.ld x0 (Rect.unit (s := S1x2x2x128x512) ![0, 1, 1, 0, 0] S1x1x1x128x512.size inb_S1x2x2x128x512_S1x1x1x128x512_0_1_1_0_0)) = qmat x0 1 := rfl
    rw [q0, q1]
    rw [attOut_eq x0 x1 x2 12 rfl]
    generalize st (qmat x0 0) x1 x2 0 12 = p0
    generalize st (qmat x0 1) x1 x2 1 12 = p1
    generalize qmat x0 0 = q0
    generalize qmat x0 1 = q1
    simp only [four, Nat.reduceAdd]
    refine (View.canon_cons_unit_zero (by decide) _ _ _).trans ?_
    rfl
  isplitl [HS0]
  · iexists _; iexists _; isplitr; swap; · iexact HS0
    ipureintro; exact rfl
  iexists _; iexists _; isplitr; swap; · iexact HS1
  ipureintro; exact rfl

end Cert.KernelIdeal.Att

end
-- ==== Proof.Att.Run.lean ====
/- The attention kernel's run: every grid point stores `attOut` of its blocks, and the arguments are left as they were. -/
module

public import Idealize.ShloMosaic.Lib.Claim
public import proofs.«01_k».proof.Proof.Att.Body

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's data: each input window keeps its block, the result window takes `attOut` of the three blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => attOut (iblk m c 0 t) (iblk m c 1 t) (iblk m c 2 t)
  Φ _ := Pipeline.ΦA spec0 c
  q _ := fullShare
  owed _ := 0

theorem A_eq (c : Dev nD) (w) : (dats m 0 c).A w = V m c (Pipeline.arrRef spec0 w) := by dsimp only [dats]
theorem after_0 (c : Dev nD) (t) : (dats m 0 c).after 0 t = iblk m c 0 t := by dsimp only [dats]
theorem after_1 (c : Dev nD) (t) : (dats m 0 c).after 1 t = iblk m c 1 t := by dsimp only [dats]
theorem after_2 (c : Dev nD) (t) : (dats m 0 c).after 2 t = iblk m c 2 t := by dsimp only [dats]
theorem after_3 (c : Dev nD) (t) : (dats m 0 c).after 3 t = attOut (iblk m c 0 t) (iblk m c 1 t) (iblk m c 2 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at point `t`, and what it gives back. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The launch's invariant is the two score buffers, at some contents, and the random-number register. -/
theorem Phi_eq (c : Dev nD) :
    (Pipeline.ΦA spec0 c : sProp 𝕄)
      = iprop(iprop((∃ d, owns (c : Thread nD τ) (Memref.whole cc0_scratch0 : Memref sig .tc .vmem S2x512x1024 .f32) fullShare d)
          ∗ (∃ d, owns (c : Thread nD τ) (Memref.whole cc0_scratch1 : Memref sig .tc .vmem S2x512x1024 .f32) fullShare d)) ∗ (∃ r, prngReg c r)) := by
  unfold Pipeline.ΦA; rw [scopedRest0_eq]; simp only [owns_whole]; try rfl

/-- One grid point. -/
theorem sound_point (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, Phi_eq]
  iintro ⟨⟨⟨HS0, HS1⟩, Hg⟩, Ho, ⟨%d0, H0⟩, ⟨%d1, H1⟩, ⟨%d2, H2⟩, ⟨%d3, H3⟩⟩
  iapply (body_run c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_point m c t) rfl .rfl fun _ => .rfl

set_option backward.isDefEq.respectTransparency.types false in
set_option maxHeartbeats 800000 in
/-- The whole program runs, ends with the semaphores at rest, and the arrays are as the launch's data say. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl) (howed := fun _ _ => rfl)
    (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The arguments are as they were, and the semaphores at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Idealize.ShloMosaic.θ_run_and (frame_of m ρ (dats m) (A_eq m) (run_main m ρ)) ((θ_run defs _ _).mono (fun _ h => h.2) (run_quiet m ρ))

end Cert.KernelIdeal.Att

end
-- ==== Proof.Att.Math.lean ====
/- Facts about sums of extended reals weighted by powers: the arithmetic of a softmax computed chunk by chunk. -/
module

public import Idealize.ShloMosaic.PureOps.Ideal.Laws
public import Mathlib.Data.EReal.Operations
public import Mathlib.Data.EReal.Inv
public import Mathlib.Analysis.SpecialFunctions.Pow.Real

@[expose] public section

noncomputable section

namespace Cert.Softmax

open Idealize.ShloMosaic Finset

/-- A real factor that is not negative distributes over a sum of extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [sum_insert ha, sum_insert ha, EReal.right_distrib_of_nonneg_of_ne_top (by exact_mod_cast hc) (EReal.coe_ne_top c), ih]

/-- A sum of reals, as extended reals. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

/-- The largest of finitely many reals, at least one, is a real. -/
theorem fold_max_real {ι : Type} (s : Finset ι) (f : ι → EReal) (h : ∀ i ∈ s, ∃ r : ℝ, f i = r) (hs : s.Nonempty) :
    ∃ r : ℝ, s.fold max ⊥ f = r := by
  classical
  induction s using Finset.induction_on with
  | empty => exact absurd hs (by simp)
  | insert a s ha ih =>
    obtain ⟨r, hr⟩ := h a (mem_insert_self a s)
    rw [fold_insert ha, hr]
    rcases s.eq_empty_or_nonempty with e | e
    · subst e; exact ⟨r, by simp⟩
    · obtain ⟨q, hq⟩ := ih (fun i hi => h i (mem_insert_of_mem hi)) e
      exact ⟨max r q, by rw [hq]; exact ((EReal.coe_strictMono.monotone).map_max).symm⟩

/-- `2 ^ (a - b)`, the base-two exponential of a difference of reals. -/
theorem exp2_sub (a b : ℝ) : Ideal.exp2 ((a : EReal) - (b : EReal)) = ((Real.exp ((a - b) * Real.log 2) : ℝ) : EReal) := by
  rw [← EReal.coe_sub, Ideal.exp2_coe]
  congr 1
  show (2 : ℝ) ^ (a - b) = _
  rw [Real.rpow_def_of_pos (by norm_num), mul_comm]

theorem exp_sub (a b : ℝ) : Ideal.exp ((a : EReal) - (b : EReal)) = ((Real.exp (a - b) : ℝ) : EReal) := by
  rw [← EReal.coe_sub, Ideal.exp_coe]

/-- Division by a positive real. -/
theorem div_real (x : EReal) (y : ℝ) (hy : 0 < y) : Ideal.div x (y : EReal) = x * ((y⁻¹ : ℝ) : EReal) := by
  unfold Ideal.div
  rw [if_neg (by exact_mod_cast hy.ne'), EReal.coe_inv]

/-- The weighted sum of the first `N` values, their weights taken against the level `m`. -/
def wsum (s : ℕ → ℝ) (v : ℕ → EReal) (m : ℝ) (N : ℕ) : EReal :=
  ∑ k ∈ range N, v k * ((Real.exp ((s k - m) * Real.log 2) : ℝ) : EReal)

/-- One chunk more: the sum so far is rescaled to the new level and the chunk's sum added. -/
theorem wsum_step (s : ℕ → ℝ) (v : ℕ → EReal) (m m' : ℝ) (N L : ℕ) :
    wsum s v m N * ((Real.exp ((m - m') * Real.log 2) : ℝ) : EReal)
      + ∑ j : Fin L, v (N + j) * ((Real.exp ((s (N + j) - m') * Real.log 2) : ℝ) : EReal)
    = wsum s v m' (N + L) := by
  unfold wsum
  rw [sum_mul_real _ _ _ (Real.exp_pos _).le, sum_range_add, ← Fin.sum_univ_eq_sum_range (fun j => v (N + j) * _)]
  congr 1
  refine sum_congr rfl fun k _ => ?_
  rw [mul_assoc, ← EReal.coe_mul, ← Real.exp_add]
  congr 3; ring

/-- The quotient of the weighted values by the total weight is the softmax's weighted mean, whatever levels the two
    exponentials are taken against. -/
theorem mean_eq (N : ℕ) (hN : 0 < N) (s t : ℕ → ℝ) (hst : ∀ k, t k = s k * Real.log 2) (v : ℕ → EReal) (m M : ℝ) :
    Ideal.div (wsum s v m N) (wsum s (fun _ => 1) m N)
      = ∑ k : Fin N, v k * Ideal.div (Ideal.exp ((t k : EReal) - (M : EReal))) (0 + ∑ k : Fin N, Ideal.exp ((t k : EReal) - (M : EReal))) := by
  have hN' : (range N).Nonempty := nonempty_range_iff.2 hN.ne'
  set c : ℝ := Real.exp (M - m * Real.log 2) with hc
  have hcp : 0 < c := Real.exp_pos _
  have hw : ∀ k, Real.exp ((s k - m) * Real.log 2) = Real.exp (t k - M) * c := fun k => by
    rw [hc, ← Real.exp_add, hst]; congr 1; ring
  set S : ℝ := ∑ k ∈ range N, Real.exp (t k - M) with hS
  have hSp : 0 < S := sum_pos (fun _ _ => Real.exp_pos _) hN'
  have hden : wsum s (fun _ => 1) m N = ((S * c : ℝ) : EReal) := by
    unfold wsum
    simp only [one_mul]
    rw [sum_real, hS, sum_mul]
    exact congrArg _ (sum_congr rfl fun k _ => hw k)
  have hden' : (0 : EReal) + ∑ k : Fin N, Ideal.exp ((t k : EReal) - (M : EReal)) = (S : EReal) := by
    rw [zero_add]
    simp only [exp_sub]
    rw [Fin.sum_univ_eq_sum_range (fun k => ((Real.exp (t k - M) : ℝ) : EReal)), sum_real]
  rw [hden, hden', div_real _ _ (mul_pos hSp hcp)]
  unfold wsum
  rw [sum_mul_real _ _ _ (inv_pos.2 (mul_pos hSp hcp)).le]
  simp only [exp_sub, div_real _ _ hSp]
  rw [Fin.sum_univ_eq_sum_range (fun k => v k * (((Real.exp (t k - M) : ℝ) : EReal) * ((S⁻¹ : ℝ) : EReal)))]
  refine sum_congr rfl fun k _ => ?_
  rw [mul_assoc, ← EReal.coe_mul, ← EReal.coe_mul, hw]
  congr 2
  field_simp

end Cert.Softmax

end
-- ==== Proof.Att.Read.lean ====
/- The attention kernel's values read at an index, at the extended reals. -/
module

public import proofs.«01_k».proof.Proof.Att.Defs
public import proofs.«01_k».proof.Proof.Att.Math
public import Idealize.ShloMosaic.Lib.Pipeline.ValueKit

@[expose] public section

set_option maxRecDepth 16384

noncomputable section

namespace Cert.KernelIdeal.Att

open Idealize.ShloMosaic Idealize.SL.Sem Cert.KernelIdeal Cert.KernelIdeal.Gen Cert.Softmax

variable (x0 : Vec Ideal S1x2x2x128x512 .bf16) (x1 : Vec Ideal S1x2x8192x128 .bf16) (x2 : Vec Ideal S1x2x16x80x512 .bf16)

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]
theorem ofBits_one : Ideal.ofBits .f32 0x3F800000#32 = 1 := by
  simp [Ideal.ofBits, Ideal.ieee]
  rw [← EReal.coe_mul, ← EReal.coe_one]
  norm_num
theorem ofBits_two : Ideal.ofBits .f32 0x40000000#32 = ((2 : ℝ) : EReal) := by
  simp [Ideal.ofBits, Ideal.ieee]
  rw [← EReal.coe_mul]
  norm_num
theorem ofBits_floor : ∃ r : ℝ, Ideal.ofBits .f32 0xF149F2CA#32 = r := by
  simp only [Ideal.ofBits, Ideal.ieee]
  rw [if_neg (by decide), if_neg (by decide)]
  exact ⟨_, rfl⟩
theorem ofBits_scale : ∃ r : ℝ, Ideal.ofBits .f32 0x3DD105EC#32 = r := by
  simp only [Ideal.ofBits, Ideal.ieee]
  rw [if_neg (by decide), if_neg (by decide)]
  exact ⟨_, rfl⟩

theorem pay3_at (q : FVec Ideal S128x1024 .bf16) (k : Vec Ideal S1x1x512x128 .bf16) (a : Fin 1) (j : Fin 512) (i : Fin 1024) :
    k0_pay3 q k (ix3 a j i) = ∑ d : Fin 128, k (ix4 0 0 j d) * q (ix2 d i) := by
  pointwise [k0_pay3, k0_pay2]

theorem pay4_at (q : FVec Ideal S128x1024 .bf16) (k : Vec Ideal S1x1x512x128 .bf16) (a : Fin 1) (i : Fin 1024) :
    k0_pay4 q k (ix2 a i) = (Finset.univ : Finset (Fin 512)).fold max ⊥ fun j => ∑ d : Fin 128, k (ix4 0 0 j d) * q (ix2 d i) := by
  pointwise [k0_pay4, k0_pay2]
  rw [ofBits_neg_inf]

theorem pay5_at (m c : FVec Ideal S1x1024 .f32) (a : Fin 1) (i : Fin 1024) : k0_pay5 m c (ix2 a i) = max (m (ix2 a i)) (c (ix2 a i)) := by
  pointwise [k0_pay5]

theorem pay6_at (m c : FVec Ideal S1x1024 .f32) (acc : FVec Ideal S80x1024 .f32) (s : Vec Ideal S1x512x1024 .f32)
    (v : Vec Ideal S1x1x1x80x512 .bf16) (r : Fin 80) (i : Fin 1024) :
    k0_pay6 m acc c s v (ix2 r i)
      = acc (ix2 r i) * Ideal.exp2 (m (ix2 0 i) - max (m (ix2 0 i)) (c (ix2 0 i)))
        + ∑ j : Fin 512, v (ix5 0 0 0 r j) * Ideal.exp2 (s (ix3 0 j i) - max (m (ix2 0 i)) (c (ix2 0 i))) := by
  pointwise [k0_pay6, k0_pay5]
  rfl

theorem fin_at (a0 a1 : FVec Ideal S80x1024 .f32) (z : Fin 1) (t : Fin 1024) (l : Fin 128) :
    fin a0 a1 (ix3 z t l) = if l.val < 64 then Ideal.div (a0 (ix2 ⟨l.val % 64, by omega⟩ t)) (a0 (ix2 64 t))
      else Ideal.div (a1 (ix2 ⟨l.val % 64, by omega⟩ t)) (a1 (ix2 64 t)) := by
  pointwise [fin]
  by_cases h : l.val < 64
  · simp only [dif_pos h, if_pos h, Nat.mod_eq_of_lt h]
  · have e : l.val % 64 = l.val - 64 := by omega
    simp only [dif_neg h, if_neg h, e]

theorem qmat_at (h : Fin 2) (d : Fin 128) (t : Fin 1024) :
    qmat x0 h (ix2 d t) = x0 (ix5 0 h ⟨t.val / 512, by omega⟩ d ⟨t.val % 512, by omega⟩) := by
  pointwise [qmat, k0_pay42]
  by_cases e : t.val < 512
  · simp only [dif_pos e]
    blk_ext
  · simp only [dif_neg e]
    blk_ext

theorem pay44_at (a : Fin 1) (i : Fin 1024) : (k0_pay44 (F := Ideal)) (ix2 a i) = Ideal.ofBits .f32 0xF149F2CA#32 := by
  pointwise [k0_pay44]

theorem pay45_at (r : Fin 80) (i : Fin 1024) : (k0_pay45 (F := Ideal)) (ix2 r i) = 0 := by
  pointwise [k0_pay45]

/-- The score of query `i` of head `h` against key `k`. -/
def score (h : Fin 2) (i : Fin 1024) (k : ℕ) : EReal :=
  ∑ d : Fin 128, x1 (ix4 0 h ⟨k % 8192, by omega⟩ d) * x0 (ix5 0 h ⟨i.val / 512, by omega⟩ d ⟨i.val % 512, by omega⟩)

/-- Row `r` of key `k`'s values. -/
def val (h : Fin 2) (r : Fin 80) (k : ℕ) : EReal :=
  x2 (ix5 0 h ⟨k / 512 % 16, by omega⟩ r ⟨k % 512, by omega⟩)

theorem kblk_at (h : Fin 2) (n : ℕ) (hn : n < 16) (j : Fin 512) (d : Fin 128) :
    kblk x1 h n (ix4 0 0 j d) = x1 (ix4 0 h ⟨(512 * n + j.val) % 8192, by omega⟩ d) := by
  have e : n % 16 = n := Nat.mod_eq_of_lt hn
  have e' : (512 * n + j.val) % 8192 = 512 * n + j.val := Nat.mod_eq_of_lt (by omega)
  unfold kblk
  rw [View.ld_apply]
  refine congrArg x1 (funext fun a => Fin.ext ?_)
  fin_cases a
  · rfl
  · show h.val + 1 * 0 = h.val; omega
  · show 512 * (n % 16) + 1 * j.val = (512 * n + j.val) % 8192; omega
  · show 0 + 1 * d.val = d.val; omega

theorem vblk_at (h : Fin 2) (n : ℕ) (hn : n < 16) (r : Fin 80) (j : Fin 512) :
    vblk x2 h n (ix5 0 0 0 r j) = val x2 h r (512 * n + j.val) := by
  unfold vblk val
  rw [View.ld_apply]
  refine congrArg x2 (funext fun a => Fin.ext ?_)
  fin_cases a
  · rfl
  · show h.val + 1 * 0 = h.val; omega
  · show n % 16 + 1 * 0 = (512 * n + j.val) / 512 % 16; omega
  · show 0 + 1 * r.val = r.val; omega
  · show 0 + 1 * j.val = (512 * n + j.val) % 512; omega

theorem sc_at (h : Fin 2) (n : ℕ) (hn : n < 16) (j : Fin 512) (i : Fin 1024) :
    sc (qmat x0 h) x1 h n (ix3 0 j i) = score x0 x1 h i (512 * n + j.val) := by
  unfold sc score
  rw [pay3_at]
  refine Finset.sum_congr rfl fun d _ => ?_
  rw [kblk_at x1 h n hn, qmat_at]

theorem cm_at (h : Fin 2) (n : ℕ) (hn : n < 16) (i : Fin 1024) :
    cm (qmat x0 h) x1 h n (ix2 0 i) = (Finset.univ : Finset (Fin 512)).fold max ⊥ fun j => score x0 x1 h i (512 * n + j.val) := by
  unfold cm score
  rw [pay4_at]
  refine congrArg (fun f => Finset.fold max ⊥ f Finset.univ) (funext fun j => ?_)
  refine Finset.sum_congr rfl fun d _ => ?_
  rw [kblk_at x1 h n hn, qmat_at]

/-- After `n` chunks: the running maximum is some real, and every row of the sum is the values of the keys so far
    weighted against it. -/
theorem st_at (h : Fin 2) (i : Fin 1024) (s : ℕ → ℝ) (hs : ∀ k, score x0 x1 h i k = s k) (n : ℕ) (hn : n ≤ 16) :
    ∃ m : ℝ, (st (qmat x0 h) x1 x2 h n).1 (ix2 0 i) = m
      ∧ ∀ r, (st (qmat x0 h) x1 x2 h n).2 (ix2 r i) = wsum s (val x2 h r) m (512 * n) := by
  induction n with
  | zero =>
    obtain ⟨m, hm⟩ := ofBits_floor
    exact ⟨m, (pay44_at 0 i).trans hm, fun r => (pay45_at r i).trans (by simp [wsum])⟩
  | succ n ih =>
    obtain ⟨m, hm, ha⟩ := ih (by omega)
    obtain ⟨c, hc⟩ := fold_max_real (Finset.univ : Finset (Fin 512)) (fun j => score x0 x1 h i (512 * n + j.val))
      (fun j _ => ⟨_, hs _⟩) ⟨0, Finset.mem_univ _⟩
    have hc' := (cm_at x0 x1 h n (by omega) i).trans hc
    have hmax : max ((st (qmat x0 h) x1 x2 h n).1 (ix2 0 i)) (cm (qmat x0 h) x1 h n (ix2 0 i)) = ((max m c : ℝ) : EReal) := by
      rw [hm, hc']; exact ((EReal.coe_strictMono.monotone).map_max).symm
    refine ⟨max m c, ?_, fun r => ?_⟩
    · simp only [st]
      rw [pay5_at, hmax]
    · simp only [st]
      rw [pay6_at, hmax, hm, ha r, exp2_sub, Nat.mul_succ, ← wsum_step s _ m (max m c)]
      refine congrArg _ (Finset.sum_congr rfl fun j _ => ?_)
      rw [vblk_at x2 h n (by omega), sc_at x0 x1 h n (by omega), hs, exp2_sub]

/-- What the kernel stores: lane `l` of query `t` is head `l / 64`'s weighted values over its total weight. -/
theorem attOut_at (z : Fin 1) (t : Fin 1024) (l : Fin 128) (s : ℕ → ℝ)
    (hs : ∀ k, score x0 x1 ⟨l.val / 64, by omega⟩ t k = s k) :
    ∃ m : ℝ, attOut x0 x1 x2 (ix3 z t l)
      = Ideal.div (wsum s (val x2 ⟨l.val / 64, by omega⟩ ⟨l.val % 64, by omega⟩) m 8192)
          (wsum s (val x2 ⟨l.val / 64, by omega⟩ 64) m 8192) := by
  have key : ∀ h : Fin 2, (∀ k, score x0 x1 h t k = s k) → ∃ m : ℝ, ∀ r, (st (qmat x0 h) x1 x2 h 16).2 (ix2 r t) = wsum s (val x2 h r) m 8192 := by
    intro h hh
    obtain ⟨m, _, hm⟩ := st_at x0 x1 x2 h t s hh 16 le_rfl
    exact ⟨m, hm⟩
  unfold attOut
  by_cases hl : l.val < 64
  · have e : (⟨l.val / 64, by omega⟩ : Fin 2) = 0 := Fin.ext (by show l.val / 64 = 0; omega)
    rw [e] at hs ⊢
    obtain ⟨m, hm⟩ := key 0 hs
    refine ⟨m, ?_⟩
    rw [fin_at, if_pos hl, hm, hm]
  · have e : (⟨l.val / 64, by omega⟩ : Fin 2) = 1 := Fin.ext (by show l.val / 64 = 1; omega)
    rw [e] at hs ⊢
    obtain ⟨m, hm⟩ := key 1 hs
    refine ⟨m, ?_⟩
    rw [fin_at, if_neg hl, hm, hm]

end Cert.KernelIdeal.Att

end
-- ==== Proof.Att.Host.lean ====
/- The arrays the attention kernel is called on, read at an index from the program's arguments. -/
module

public import proofs.«01_k».proof.Proof.Att.Read
public import proofs.«01_k».proof.Proof.Att.Run

@[expose] public section

set_option maxRecDepth 16384

noncomputable section

set_option maxHeartbeats 60000

namespace Cert.KernelIdeal.Att

open Idealize.ShloMosaic Idealize.ShloMosaic.TcCoe Idealize.SL.Sem Cert.KernelIdeal Cert.KernelIdeal.Gen Cert.Softmax

variable (m : (ℓ : Loc nD τ sig) → Buf (Elt Ideal) ℓ) (c : Dev nD)

/-- The arguments. -/
abbrev qn : FVec Ideal S8x8192x8x64 .f32 := m ((c.tc : Thread nD τ).loc main_arg0)
abbrev qr : FVec Ideal S8x8192x8x32 .f32 := m ((c.tc : Thread nD τ).loc main_arg1)
abbrev kn : FVec Ideal S8x8192x8x64 .f32 := m ((c.tc : Thread nD τ).loc main_arg2)
abbrev kr : FVec Ideal S8x8192x32 .f32 := m ((c.tc : Thread nD τ).loc main_arg3)
abbrev vv : FVec Ideal S8x8192x8x64 .f32 := m ((c.tc : Thread nD τ).loc main_arg4)

/-- The queries' factor: the softmax's scale over the logarithm of two. -/
def factor : EReal := Ideal.div (Ideal.ofBits .f32 0x3DD105EC#32) (Ideal.log (Ideal.ofBits .f32 0x40000000#32))

theorem dite_pad {α : Type} {A P : Prop} [Decidable A] [Decidable P] (hA : A) (f : A ∧ P → α) (f' : P → α) (z : α)
    (h : ∀ p, f ⟨hA, p⟩ = f' p) : (if x : A ∧ P then f x else z) = if x : P then f' x else z := by
  by_cases hp : P
  · rw [dif_pos ⟨hA, hp⟩, dif_pos hp, h]
  · rw [dif_neg (fun x => hp x.2), dif_neg hp]

theorem dite_scale {P : Prop} [Decidable P] (f : P → EReal) (f' : ¬P → EReal) (z : EReal) :
    (if x : P then f x else f' x) * z = if x : P then f x * z else f' x * z := by
  by_cases hp : P
  · rw [dif_pos hp, dif_pos hp]
  · rw [dif_neg hp, dif_neg hp]

theorem q_at (b h : Fin 8) (g : Fin 16) (d : Fin 128) (p : Fin 512) :
    (V m c main_v8 : FVec Ideal S8x8x16x128x512 .bf16) (ix5 b h g d p)
      = if hd : d.val < 96 then (if hd' : d.val < 64 then qn m c (ix4 b ⟨g.val * 512 + p.val, by omega⟩ h ⟨d.val, by omega⟩) * factor
          else qr m c (ix4 b ⟨g.val * 512 + p.val, by omega⟩ h ⟨d.val - 64, by omega⟩) * factor) else 0 := by
  entry_read
  pointwise
  simp only [show Ideal.div (Ideal.ofBits .f32 0x3DD105EC#32) (Ideal.log (Ideal.ofBits .f32 0x40000000#32)) = factor from rfl]
  exact dite_pad (A := g.val * 512 + p.val < 8192) (by omega) _ _ _ fun hd => dite_scale _ _ _

theorem k_at (b h : Fin 8) (l : Fin 8192) (d : Fin 128) :
    (V m c main_v14 : FVec Ideal S8x8x8192x128 .bf16) (ix4 b h l d)
      = if hd : d.val < 96 then (if hd' : d.val < 64 then kn m c (ix4 b l h ⟨d.val, by omega⟩)
          else kr m c (ix3 b l ⟨d.val - 64, by omega⟩)) else 0 := by
  entry_read
  pointwise

theorem v_at (b h : Fin 8) (g : Fin 16) (r : Fin 80) (p : Fin 512) :
    (V m c main_v20 : FVec Ideal S8x8x16x80x512 .bf16) (ix5 b h g r p)
      = if hr : r.val < 65 then (if hr' : r.val < 64 then vv m c (ix4 b ⟨g.val * 512 + p.val, by omega⟩ h ⟨r.val, by omega⟩)
          else 1) else 0 := by
  entry_read
  pointwise
  exact dite_pad (by omega) _ _ _ fun hr => rfl

end Cert.KernelIdeal.Att

end
-- ==== Proof.Att.Blk.lean ====
/- The blocks of the operands at a grid point, read at an index. -/
module

public import proofs.«01_k».proof.Proof.Att.Run
public import proofs.«01_k».proof.Proof.Att.Read
public import Idealize.ShloMosaic.Lib.Pipeline.Covers

@[expose] public section

set_option maxRecDepth 16384

noncomputable section

namespace Cert.KernelIdeal.Att

open Idealize.ShloMosaic Idealize.ShloMosaic.TcCoe Idealize.SL.Sem Cert.KernelIdeal Cert.KernelIdeal.Gen

variable (m : (ℓ : Loc nD τ sig) → Buf (Elt Ideal) ℓ) (c : Dev nD)

set_option maxHeartbeats 100000
/-- The blocks a grid point works on: head pair and batch, and for queries and results which 1024 of them. -/
theorem index_at : ∀ t : Fin cfg0.N,
    win0_0.index t = ![(grid0.coords t 0).val, (grid0.coords t 1).val, (grid0.coords t 2).val, 0, 0]
      ∧ win0_1.index t = ![(grid0.coords t 0).val, (grid0.coords t 1).val, 0, 0]
      ∧ win0_2.index t = ![(grid0.coords t 0).val, (grid0.coords t 1).val, 0, 0, 0]
      ∧ win0_3.index t = ![(grid0.coords t 0).val, (grid0.coords t 2).val, (grid0.coords t 1).val]
      ∧ (grid0.coords t 0).val < 8 ∧ (grid0.coords t 1).val < 4 ∧ (grid0.coords t 2).val < 8 :=
  (by decide +kernel : ∀ t : Fin grid0.N, _)

/-- Window 0's block read at an index: the array's entry where the block is placed. -/
theorem read0 (t : Fin grid0.N) (y : (win0_0.xblock (grid0.coords t)).Idx) (X : FVec Ideal S8x8x16x128x512 .bf16) (j : S8x8x16x128x512.Idx)
    (h : ∀ a, (j a).val = win0_0.index t a * win0_0.size a + (y a).val) : View.read (Elt Ideal) (win0_0.blk t).view X y = X j := by
  exact congrArg X (funext fun a => Fin.ext ((Pipeline.Window.rect_emb_val win0_0 t y a rfl).trans (h a).symm))

/-- Window 1's block read at an index: the array's entry where the block is placed. -/
theorem read1 (t : Fin grid0.N) (y : (win0_1.xblock (grid0.coords t)).Idx) (X : FVec Ideal S8x8x8192x128 .bf16) (j : S8x8x8192x128.Idx)
    (h : ∀ a, (j a).val = win0_1.index t a * win0_1.size a + (y a).val) : View.read (Elt Ideal) (win0_1.blk t).view X y = X j := by
  exact congrArg X (funext fun a => Fin.ext ((Pipeline.Window.rect_emb_val win0_1 t y a rfl).trans (h a).symm))

/-- Window 2's block read at an index: the array's entry where the block is placed. -/
theorem read2 (t : Fin grid0.N) (y : (win0_2.xblock (grid0.coords t)).Idx) (X : FVec Ideal S8x8x16x80x512 .bf16) (j : S8x8x16x80x512.Idx)
    (h : ∀ a, (j a).val = win0_2.index t a * win0_2.size a + (y a).val) : View.read (Elt Ideal) (win0_2.blk t).view X y = X j := by
  exact congrArg X (funext fun a => Fin.ext ((Pipeline.Window.rect_emb_val win0_2 t y a rfl).trans (h a).symm))

/-- Where the result's block is placed. -/
theorem emb3 (t : Fin grid0.N) (y : (win0_3.xblock (grid0.coords t)).Idx) (j : S8x8192x512.Idx)
    (h : ∀ a, (j a).val = win0_3.index t a * win0_3.size a + (y a).val) : (win0_3.blk t).view.emb y = j :=
  funext fun a => Fin.ext ((Pipeline.Window.rect_emb_val win0_3 t y a rfl).trans (h a).symm)

section

variable (t : Fin grid0.N) (b : Fin 8) (hp : Fin 4) (qb : Fin 8)
  (eb : (grid0.coords t 0).val = b.val) (eh : (grid0.coords t 1).val = hp.val) (eq : (grid0.coords t 2).val = qb.val)

include eb eh

theorem kwin_at (z : Fin 1) (h : Fin 2) (l : Fin 8192) (d : Fin 128) :
    (iblk m c 1 t : Vec Ideal S1x2x8192x128 .bf16) (ix4 z h l d)
      = (V m c main_v14 : FVec Ideal S8x8x8192x128 .bf16) (ix4 b ⟨hp.val * 2 + h.val, by omega⟩ l d) := by
  refine read1 t (ix4 z h l d) (V m c main_v14) (ix4 b ⟨hp.val * 2 + h.val, by omega⟩ l d) fun a => ?_
  rw [(index_at t).2.1, eb, eh]
  have h0 : b.val = b.val * 1 + z.val := by omega
  have h2 : l.val = 0 * 8192 + l.val := by omega
  have h3 : d.val = 0 * 128 + d.val := by omega
  exact match a with | 0 => h0 | 1 => rfl | 2 => h2 | 3 => h3

theorem vwin_at (z : Fin 1) (h : Fin 2) (g : Fin 16) (r : Fin 80) (p : Fin 512) :
    (iblk m c 2 t : Vec Ideal S1x2x16x80x512 .bf16) (ix5 z h g r p)
      = (V m c main_v20 : FVec Ideal S8x8x16x80x512 .bf16) (ix5 b ⟨hp.val * 2 + h.val, by omega⟩ g r p) := by
  refine read2 t (ix5 z h g r p) (V m c main_v20) (ix5 b ⟨hp.val * 2 + h.val, by omega⟩ g r p) fun a => ?_
  rw [(index_at t).2.2.1, eb, eh]
  have h0 : b.val = b.val * 1 + z.val := by omega
  have h2 : g.val = 0 * 16 + g.val := by omega
  have h3 : r.val = 0 * 80 + r.val := by omega
  have h4 : p.val = 0 * 512 + p.val := by omega
  exact match a with | 0 => h0 | 1 => rfl | 2 => h2 | 3 => h3 | 4 => h4

include eq

theorem qwin_at (z : Fin 1) (h g : Fin 2) (d : Fin 128) (p : Fin 512) :
    (iblk m c 0 t : Vec Ideal S1x2x2x128x512 .bf16) (ix5 z h g d p)
      = (V m c main_v8 : FVec Ideal S8x8x16x128x512 .bf16) (ix5 b ⟨hp.val * 2 + h.val, by omega⟩ ⟨qb.val * 2 + g.val, by omega⟩ d p) := by
  refine read0 t (ix5 z h g d p) (V m c main_v8) (ix5 b ⟨hp.val * 2 + h.val, by omega⟩ ⟨qb.val * 2 + g.val, by omega⟩ d p) fun a => ?_
  rw [(index_at t).1, eb, eh, eq]
  have h0 : b.val = b.val * 1 + z.val := by omega
  have h3 : d.val = 0 * 128 + d.val := by omega
  have h4 : p.val = 0 * 512 + p.val := by omega
  exact match a with | 0 => h0 | 1 => rfl | 2 => rfl | 3 => h3 | 4 => h4

theorem out_emb (z : Fin 1) (q : Fin 1024) (l : Fin 128) :
    (win0_3.blk t).view.emb (ix3 z q l : S1x1024x128.Idx) = (ix3 b ⟨qb.val * 1024 + q.val, by omega⟩ ⟨hp.val * 128 + l.val, by omega⟩ : S8x8192x512.Idx) := by
  refine emb3 t (ix3 z q l) (ix3 b ⟨qb.val * 1024 + q.val, by omega⟩ ⟨hp.val * 128 + l.val, by omega⟩) fun a => ?_
  rw [(index_at t).2.2.2.1, eb, eh, eq]
  have h0 : b.val = b.val * 1 + z.val := by omega
  exact match a with | 0 => h0 | 1 => rfl | 2 => rfl

end

/-- The grid point of a block of the result. -/
def pt (a0 : Fin 8) (a1 : Fin 4) (a2 : Fin 8) : grid0.Coords := fun | 0 => a0 | 1 => a1 | 2 => a2

theorem index_pt (a0 : Fin 8) (a1 : Fin 4) (a2 : Fin 8) : cc0_transform_3 (pt a0 a1 a2) = ![a0.val, a2.val, a1.val] := by
  revert a0 a1 a2
  decide +kernel

theorem covers : win0_3.Covers :=
  win0_3.covers_of_indexMap_surj rfl (by decide) fun β => ⟨pt (β 0) (β 2) (β 1), fun a => by
    refine (congrFun (index_pt (β 0) (β 2) (β 1)) a).trans ?_
    exact match a with | 0 => rfl | 1 => rfl | 2 => rfl⟩

end Cert.KernelIdeal.Att

end
-- ==== Proof.Att.Ref.lean ====
/- The reference's attention read at an index. -/
module

public import proofs.«01_k».proof.Proof.Gen.ReferenceIdeal.Run
public import proofs.«01_k».proof.Proof.Gen.ReferenceIdeal.Read
public import proofs.«01_k».proof.Proof.Att.Read
public import Idealize.ShloMosaic.Lib.Pipeline.ValueKit

@[expose] public section

set_option maxRecDepth 16384

noncomputable section

set_option maxHeartbeats 100000

namespace Cert.ReferenceIdeal.Att

open Idealize.ShloMosaic Idealize.SL.Sem Cert.ReferenceIdeal Cert.ReferenceIdeal.Gen Cert.ReferenceIdeal.Read Cert.Softmax

variable (x0 : FVec Ideal S8x8192x8x64 .f32) (x1 : FVec Ideal S8x8192x8x32 .f32) (x2 : FVec Ideal S8x8192x8x64 .f32)
  (x3 : FVec Ideal S8x8192x32 .f32) (x4 : FVec Ideal S8x8192x8x64 .f32)

/-- The scaled score of query `q` against key `k`. -/
def rscore (b h : Fin 8) (q k : Fin 8192) : EReal :=
  (∑ d : Fin 64, x0 (ix4 b q h d) * x2 (ix4 b k h d) + ∑ d : Fin 32, x3 (ix3 b k d) * x1 (ix4 b q h d)) * Ideal.ofBits .f32 0x3DD105EC#32

theorem score_at (b h : Fin 8) (q k : Fin 8192) : val_main_v5 (F := Ideal) x0 x1 x2 x3 (ix4 b h q k) = rscore x0 x1 x2 x3 b h q k := by
  rw [val_main_v5_apply, val_main_v3_apply, val_main_v0_apply, val_main_v2_apply, val_main_v1_apply, val_main_v4_apply, val_main_cst_apply]
  unfold rscore
  have e0 : ∀ d : Fin 64, lidx_main_v0 (ix4 b h q k) d = ix4 b q h d := fun d => by blk_ext
  have e1 : ∀ d : Fin 64, ridx_main_v0 (ix4 b h q k) d = ix4 b k h d := fun d => by blk_ext
  have e2 : ∀ d : Fin 32, lidx_main_v1 (idx_main_v2 (ix4 b h q k)) d = ix3 b k d := fun d => by blk_ext
  have e3 : ∀ d : Fin 32, ridx_main_v1 (idx_main_v2 (ix4 b h q k)) d = ix4 b q h d := fun d => by blk_ext
  simp only [e0, e1, e2, e3]
  rfl

/-- The largest score of a query. -/
def rmax (b h : Fin 8) (q : Fin 8192) : EReal := (Finset.univ : Finset (Fin 8192)).fold max ⊥ fun k => rscore x0 x1 x2 x3 b h q k

/-- Minus infinity, as printed. -/
theorem neg_inf : Ideal.ofBits .f32 0xFF800000#32 = (⊥ : EReal) := Cert.KernelIdeal.Att.ofBits_neg_inf

theorem max_at (b h : Fin 8) (q : Fin 8192) :
    val_main_v8 (F := Ideal) x0 x1 x2 x3 (ix3 b h q) = rmax x0 x1 x2 x3 b h q := by
  rw [val_main_v8_apply, val_main_v7_apply, val_main_cst_1_apply]
  unfold val_main_v6 rmax
  pointwise
  simp only [score_at]
  have e : (val_main_cst_0 (F := Ideal) (Shape.Idx.first h_S_)) = (⊥ : EReal) := neg_inf
  rw [e]
  exact (congrArg (fun z : EReal => max z _) neg_inf).trans (bot_sup_eq _)

theorem out_at (b : Fin 8) (q : Fin 8192) (l : Fin 512) :
    (show EReal from val_main_v19 (F := Ideal) x0 x1 x2 x3 x4 (ix3 b q l))
      = ∑ k : Fin 8192, (show EReal from x4 (ix4 b k ⟨l.val / 64, by omega⟩ ⟨l.val % 64, by omega⟩))
        * Ideal.div (Ideal.exp (rscore x0 x1 x2 x3 b ⟨l.val / 64, by omega⟩ q k - rmax x0 x1 x2 x3 b ⟨l.val / 64, by omega⟩ q))
          (0 + ∑ k : Fin 8192, Ideal.exp (rscore x0 x1 x2 x3 b ⟨l.val / 64, by omega⟩ q k - rmax x0 x1 x2 x3 b ⟨l.val / 64, by omega⟩ q)) := by
  rw [val_main_v19_apply, val_main_v18_apply, val_main_v17_apply]
  have e0 : idx_main_v18 (idx_main_v19 (ix3 b q l)) = ix4 b ⟨l.val / 64, by omega⟩ ⟨l.val % 64, by omega⟩ q := by blk_ext
  rw [e0]
  generalize (⟨l.val / 64, _⟩ : Fin 8) = h
  generalize (⟨l.val % 64, _⟩ : Fin 64) = r
  have e1 : ∀ k : Fin 8192, lidx_main_v17 (ix4 b h r q) k = ix4 b k h r := fun k => by blk_ext
  have e2 : ∀ k : Fin 8192, ridx_main_v17 (ix4 b h r q) k = ix4 b h q k := fun k => by blk_ext
  have e3 : ∀ k : Fin 8192, idx_main_v9 (idx_main_v10 (ix4 b h q k)) = ix3 b h q := fun k => by blk_ext
  have e4 : ∀ k : Fin 8192, idx_main_v14 (idx_main_v15 (ix4 b h q k)) = ix3 b h q := fun k => by blk_ext
  have e5 : ∀ k : Fin 8192, idx_main_v13 (ix3 b h q) k = ix4 b h q k := fun k => by blk_ext
  simp only [val_main_v16_apply, val_main_v15_apply, val_main_v14_apply, val_main_v13_apply, val_main_v12_apply, val_main_v11_apply, val_main_v10_apply, val_main_v9_apply, val_main_cst_2_apply,
    e1, e2, e3, e4, e5, score_at, max_at]
  have z : (FloatOps.ofBits FTy.f32 0#32 : Ideal .f32) = (0 : EReal) := Ideal.ofBits_zero .f32
  rw [z]
  rfl

end Cert.ReferenceIdeal.Att

end
-- ==== Proof.Att.Value.lean ====
/- What the attention kernel leaves in its result, as the reference's attention. -/
module

public import proofs.«01_k».proof.Proof.Att.Host
public import proofs.«01_k».proof.Proof.Att.Blk
public import proofs.«01_k».proof.Proof.Att.Ref

@[expose] public section

set_option maxRecDepth 16384

noncomputable section

set_option maxHeartbeats 100000

namespace Cert.KernelIdeal.Att

open Idealize.ShloMosaic Idealize.ShloMosaic.TcCoe Idealize.SL.Sem Cert.KernelIdeal Cert.KernelIdeal.Gen Cert.Softmax

/-- A head's 128 lanes: its 64 lanes without position, its 32 with, and 32 of padding. -/
theorem sum128 (f : Fin 128 → EReal) :
    ∑ d, f d = ∑ d : Fin 64, f ⟨d.val, by omega⟩ + (∑ d : Fin 32, f ⟨64 + d.val, by omega⟩ + ∑ d : Fin 32, f ⟨96 + d.val, by omega⟩) := by
  have e : ∑ d, f d = ∑ d : Fin (64 + (32 + 32)), f d := rfl
  rw [e, Fin.sum_univ_add, Fin.sum_univ_add]
  congr 2

/-- The queries' factor is the scale over the logarithm of two. -/
theorem factor_real : ∃ r C : ℝ, Ideal.ofBits .f32 0x3DD105EC#32 = (C : EReal) ∧ factor = (r : EReal) ∧ C = r * Real.log 2 := by
  obtain ⟨C, hC⟩ := ofBits_scale
  have h2 : 0 < Real.log 2 := Real.log_pos (by norm_num)
  refine ⟨C * (Real.log 2)⁻¹, C, hC, ?_, ?_⟩
  · unfold factor
    rw [hC, ofBits_two, Ideal.log_coe, if_neg (by norm_num), div_real _ _ h2, EReal.coe_mul]
  · field_simp

/-- A product of two padded lanes, queries scaled, summed: the two real inner products, scaled. -/
theorem lanes_real (k1 q1 : Fin 64 → ℝ) (k2 q2 : Fin 32 → ℝ) (r : ℝ) (f : Fin 128 → EReal)
    (h1 : ∀ d : Fin 64, f ⟨d.val, by omega⟩ = (k1 d : EReal) * ((q1 d : EReal) * (r : EReal)))
    (h2 : ∀ d : Fin 32, f ⟨64 + d.val, by omega⟩ = (k2 d : EReal) * ((q2 d : EReal) * (r : EReal)))
    (h3 : ∀ d : Fin 32, f ⟨96 + d.val, by omega⟩ = 0) :
    ∑ d, f d = (((∑ d, q1 d * k1 d + ∑ d, k2 d * q2 d) * r : ℝ) : EReal) := by
  rw [sum128, Finset.sum_congr rfl fun d _ => h1 d, Finset.sum_congr rfl fun d _ => h2 d, Finset.sum_congr rfl fun d _ => h3 d]
  simp only [← EReal.coe_mul, sum_real, Finset.sum_const_zero, add_zero, ← EReal.coe_add]
  congr 1
  rw [add_mul, Finset.sum_mul, Finset.sum_mul]
  congr 1 <;> exact Finset.sum_congr rfl fun d _ => by ring

/-- The reference's score, of real queries and keys. -/
theorem rscore_real (x0 : FVec Ideal S8x8192x8x64 .f32) (x1 : FVec Ideal S8x8192x8x32 .f32) (x2 : FVec Ideal S8x8192x8x64 .f32)
    (x3 : FVec Ideal S8x8192x32 .f32) (b h : Fin 8) (q k : Fin 8192) (k1 q1 : Fin 64 → ℝ) (k2 q2 : Fin 32 → ℝ) (C : ℝ)
    (hC : Ideal.ofBits .f32 0x3DD105EC#32 = (C : EReal))
    (h0 : ∀ d, x0 (ix4 b q h d) = (q1 d : EReal)) (h1 : ∀ d, x1 (ix4 b q h d) = (q2 d : EReal))
    (h2 : ∀ d, x2 (ix4 b k h d) = (k1 d : EReal)) (h3 : ∀ d, x3 (ix3 b k d) = (k2 d : EReal)) :
    Cert.ReferenceIdeal.Att.rscore x0 x1 x2 x3 b h q k = (((∑ d, q1 d * k1 d + ∑ d, k2 d * q2 d) * C : ℝ) : EReal) := by
  unfold Cert.ReferenceIdeal.Att.rscore
  rw [hC]
  simp only [h0, h1, h2, h3]
  simp only [← EReal.coe_mul, sum_real, ← EReal.coe_add]

/-- A kernel score, of real queries and keys. -/
theorem score_real (x0 : Vec Ideal S1x2x2x128x512 .bf16) (x1 : Vec Ideal S1x2x8192x128 .bf16) (h : Fin 2) (i : Fin 1024) (k : ℕ)
    (k1 q1 : Fin 64 → ℝ) (k2 q2 : Fin 32 → ℝ) (r : ℝ)
    (hk : ∀ d : Fin 128, x1 (ix4 0 h ⟨k % 8192, by omega⟩ d)
      = if hd : d.val < 96 then (if hd' : d.val < 64 then (k1 ⟨d.val, by omega⟩ : EReal) else (k2 ⟨d.val - 64, by omega⟩ : EReal)) else 0)
    (hq : ∀ d : Fin 128, x0 (ix5 0 h ⟨i.val / 512, by omega⟩ d ⟨i.val % 512, by omega⟩)
      = if hd : d.val < 96 then (if hd' : d.val < 64 then (q1 ⟨d.val, by omega⟩ : EReal) * (r : EReal)
          else (q2 ⟨d.val - 64, by omega⟩ : EReal) * (r : EReal)) else 0) :
    score x0 x1 h i k = (((∑ d, q1 d * k1 d + ∑ d, k2 d * q2 d) * r : ℝ) : EReal) := by
  unfold score
  refine lanes_real k1 q1 k2 q2 r (fun d => x1 (ix4 0 h ⟨k % 8192, by omega⟩ d) * x0 (ix5 0 h ⟨i.val / 512, by omega⟩ d ⟨i.val % 512, by omega⟩))
    (fun d => ?_) (fun d => ?_) (fun d => ?_)
  · have a1 : d.val < 96 := by omega
    exact congrArg₂ (fun a b : EReal => a * b) ((hk _).trans ((dif_pos a1).trans (dif_pos d.isLt))) ((hq _).trans ((dif_pos a1).trans (dif_pos d.isLt)))
  · have a1 : 64 + d.val < 96 := by omega
    have a2 : ¬64 + d.val < 64 := by omega
    have a3 : (⟨64 + d.val - 64, by omega⟩ : Fin 32) = d := Fin.ext (Nat.add_sub_cancel_left 64 d.val)
    refine (congrArg₂ (fun a b : EReal => a * b) ((hk _).trans ((dif_pos a1).trans (dif_neg a2))) ((hq _).trans ((dif_pos a1).trans (dif_neg a2)))).trans ?_
    exact congrArg (fun e : Fin 32 => (k2 e : EReal) * ((q2 e : EReal) * (r : EReal))) a3
  · have a1 : ¬96 + d.val < 96 := by omega
    exact (congrArg (fun a : EReal => a * _) ((hk _).trans (dif_neg a1))).trans (zero_mul _)

variable (m : (ℓ : Loc nD τ sig) → Buf (Elt Ideal) ℓ) (c : Dev nD)

/-- The queries and keys are real. -/
structure Finite : Prop where
  qn : ∀ i, ∃ r : ℝ, qn m c i = (r : EReal)
  qr : ∀ i, ∃ r : ℝ, qr m c i = (r : EReal)
  kn : ∀ i, ∃ r : ℝ, kn m c i = (r : EReal)
  kr : ∀ i, ∃ r : ℝ, kr m c i = (r : EReal)

section

variable (t : Fin grid0.N) (b : Fin 8) (hp : Fin 4) (qb : Fin 8)
  (eb : (grid0.coords t 0).val = b.val) (eh : (grid0.coords t 1).val = hp.val) (eq : (grid0.coords t 2).val = qb.val)

include eb eh

theorem krow (h : Fin 2) (l : Fin 8192) (d : Fin 128) :
    (iblk m c 1 t : Vec Ideal S1x2x8192x128 .bf16) (ix4 0 h l d)
      = if hd : d.val < 96 then (if hd' : d.val < 64 then kn m c (ix4 b l ⟨hp.val * 2 + h.val, by omega⟩ ⟨d.val, by omega⟩)
          else kr m c (ix3 b l ⟨d.val - 64, by omega⟩)) else 0 :=
  (kwin_at m c t b hp qb eb eh 0 h l d).trans (k_at m c b ⟨hp.val * 2 + h.val, by omega⟩ l d)

theorem val_lt (h : Fin 2) (r : Fin 64) (k : Fin 8192) :
    val (iblk m c 2 t) h ⟨r.val, by omega⟩ k.val = vv m c (ix4 b k ⟨hp.val * 2 + h.val, by omega⟩ r) := by
  unfold val
  refine ((vwin_at m c t b hp qb eb eh 0 h _ _ _).trans (v_at m c b ⟨hp.val * 2 + h.val, by omega⟩ _ _ _)).trans ?_
  have hr : r.val < 65 := by omega
  rw [dif_pos hr, dif_pos r.isLt]
  have e : (⟨k.val / 512 % 16 * 512 + k.val % 512, by omega⟩ : Fin 8192) = k := Fin.ext (by show k.val / 512 % 16 * 512 + k.val % 512 = k.val; omega)
  exact congrArg (fun z => vv m c (ix4 b z ⟨hp.val * 2 + h.val, by omega⟩ r)) e

theorem val_one (h : Fin 2) : val (iblk m c 2 t) h 64 = fun _ => 1 := by
  funext k
  unfold val
  refine ((vwin_at m c t b hp 0 eb eh 0 h _ _ _).trans (v_at m c b ⟨hp.val * 2 + h.val, by omega⟩ _ 64 _)).trans ?_
  have h1 : (64 : Fin 80).val < 65 := by decide
  have h2 : ¬(64 : Fin 80).val < 64 := by decide
  rw [dif_pos h1, dif_neg h2]

include eq

theorem qrow (h g : Fin 2) (d : Fin 128) (p : Fin 512) (q : Fin 8192) (hq : (qb.val * 2 + g.val) * 512 + p.val = q.val) :
    (iblk m c 0 t : Vec Ideal S1x2x2x128x512 .bf16) (ix5 0 h g d p)
      = if hd : d.val < 96 then (if hd' : d.val < 64 then qn m c (ix4 b q ⟨hp.val * 2 + h.val, by omega⟩ ⟨d.val, by omega⟩) * factor
          else qr m c (ix4 b q ⟨hp.val * 2 + h.val, by omega⟩ ⟨d.val - 64, by omega⟩) * factor) else 0 := by
  have hb : (qb.val * 2 + g.val) * 512 + p.val < 8192 := by clear hq; omega
  obtain rfl : q = ⟨(qb.val * 2 + g.val) * 512 + p.val, hb⟩ := Fin.ext hq.symm
  exact (qwin_at m c t b hp qb eb eh eq 0 h g d p).trans (q_at m c b ⟨hp.val * 2 + h.val, by omega⟩ ⟨qb.val * 2 + g.val, by omega⟩ d p)

/-- The scores a grid point forms are real, and the reference's up to the factor `log 2`. -/
theorem score_eq (hf : Finite m c) (h : Fin 2) (i : Fin 1024) :
    ∃ s t' : ℕ → ℝ, (∀ k, score (iblk m c 0 t) (iblk m c 1 t) h i k = (s k : EReal)) ∧ (∀ k, t' k = s k * Real.log 2)
      ∧ ∀ k : Fin 8192, Cert.ReferenceIdeal.Att.rscore (qn m c) (qr m c) (kn m c) (kr m c) b ⟨hp.val * 2 + h.val, by omega⟩
          ⟨qb.val * 1024 + i.val, by omega⟩ k = (t' k.val : EReal) := by
  obtain ⟨r, C, hC, hr, hrC⟩ := factor_real
  choose Qn hQn using hf.qn
  choose Qr hQr using hf.qr
  choose Kn hKn using hf.kn
  choose Kr hKr using hf.kr
  generalize hH : (⟨hp.val * 2 + h.val, by omega⟩ : Fin 8) = H
  generalize hq : (⟨qb.val * 1024 + i.val, by omega⟩ : Fin 8192) = q
  let D : Fin 8192 → ℝ := fun k => ∑ d : Fin 64, Qn (ix4 b q H d) * Kn (ix4 b k H d) + ∑ d : Fin 32, Kr (ix3 b k d) * Qr (ix4 b q H d)
  refine ⟨fun k => D ⟨k % 8192, by omega⟩ * r, fun k => D ⟨k % 8192, by omega⟩ * C, fun k => ?_, fun k => ?_, fun k => ?_⟩
  · have hg : (qb.val * 2 + i.val / 512) * 512 + i.val % 512 = q.val := by
      rw [← hq]
      show _ = qb.val * 1024 + i.val
      omega
    refine score_real (iblk m c 0 t) (iblk m c 1 t) h i k (fun d => Kn (ix4 b ⟨k % 8192, by omega⟩ H d)) (fun d => Qn (ix4 b q H d)) (fun d => Kr (ix3 b ⟨k % 8192, by omega⟩ d))
      (fun d => Qr (ix4 b q H d)) r (fun d => ?_) (fun d => ?_)
    · refine (krow m c t b hp qb eb eh h ⟨k % 8192, by omega⟩ d).trans ?_
      rw [hH]
      simp only [hKn, hKr]
    · refine (qrow m c t b hp qb eb eh eq h ⟨i.val / 512, by omega⟩ d ⟨i.val % 512, by omega⟩ q hg).trans ?_
      rw [hH]
      simp only [hQn, hQr, hr]
  · beta_reduce
    rw [hrC, mul_assoc]
  · have ek : (⟨k.val % 8192, by omega⟩ : Fin 8192) = k := Fin.ext (Nat.mod_eq_of_lt k.isLt)
    beta_reduce
    rw [ek]
    exact rscore_real _ _ _ _ b H q k (fun d => Kn (ix4 b k H d)) (fun d => Qn (ix4 b q H d)) (fun d => Kr (ix3 b k d)) (fun d => Qr (ix4 b q H d)) C hC
      (fun d => hQn _) (fun d => hQr _) (fun d => hKn _) (fun d => hKr _)

/-- The block a grid point leaves is the reference's attention there. -/
theorem point (hf : Finite m c) (z : Fin 1) (i : Fin 1024) (l : Fin 128) :
    attOut (iblk m c 0 t) (iblk m c 1 t) (iblk m c 2 t) (ix3 z i l)
      = Cert.ReferenceIdeal.Read.val_main_v19 (F := Ideal) (qn m c) (qr m c) (kn m c) (kr m c) (vv m c)
          (ix3 b ⟨qb.val * 1024 + i.val, by omega⟩ ⟨hp.val * 128 + l.val, by omega⟩) := by
  obtain ⟨s, t', hs, hst, ht⟩ := score_eq m c t b hp qb eb eh eq hf ⟨l.val / 64, by omega⟩ i
  obtain ⟨u, hu⟩ := attOut_at (iblk m c 0 t) (iblk m c 1 t) (iblk m c 2 t) z i l s hs
  rw [hu, val_one m c t b hp eb eh]
  refine Eq.trans ?_ (Cert.ReferenceIdeal.Att.out_at (qn m c) (qr m c) (kn m c) (kr m c) (vv m c) b ⟨qb.val * 1024 + i.val, by omega⟩ ⟨hp.val * 128 + l.val, by omega⟩).symm
  have eH : (⟨(hp.val * 128 + l.val) / 64, by omega⟩ : Fin 8) = ⟨hp.val * 2 + l.val / 64, by omega⟩ :=
    Fin.ext (by show (hp.val * 128 + l.val) / 64 = hp.val * 2 + l.val / 64; omega)
  have er : (⟨(hp.val * 128 + l.val) % 64, by omega⟩ : Fin 64) = ⟨l.val % 64, by omega⟩ :=
    Fin.ext (by show (hp.val * 128 + l.val) % 64 = l.val % 64; omega)
  simp only [eH, er]
  obtain ⟨M, hM⟩ : ∃ M : ℝ, Cert.ReferenceIdeal.Att.rmax (qn m c) (qr m c) (kn m c) (kr m c) b ⟨hp.val * 2 + l.val / 64, by omega⟩ ⟨qb.val * 1024 + i.val, by omega⟩ = (M : EReal) := by
    unfold Cert.ReferenceIdeal.Att.rmax
    exact fold_max_real Finset.univ _ (fun k _ => ⟨t' k.val, ht k⟩) Finset.univ_nonempty
  rw [hM, mean_eq 8192 (by norm_num) s t' hst _ u M]
  have hv : ∀ k : Fin 8192, val (iblk m c 2 t) ⟨l.val / 64, by omega⟩ ⟨l.val % 64, by omega⟩ k.val
      = vv m c (ix4 b k ⟨hp.val * 2 + l.val / 64, by omega⟩ ⟨l.val % 64, by omega⟩) :=
    fun k => val_lt m c t b hp qb eb eh ⟨l.val / 64, by omega⟩ ⟨l.val % 64, by omega⟩ k
  have ht' : ∀ k : Fin 8192, Cert.ReferenceIdeal.Att.rscore (qn m c) (qr m c) (kn m c) (kr m c) b ⟨hp.val * 2 + l.val / 64, by omega⟩
      ⟨qb.val * 1024 + i.val, by omega⟩ k = (t' k.val : EReal) := ht
  simp only [ht', hv]

end

/-- The result array after the run is the reference's attention. -/
theorem final (hf : Finite m c) : (dats m 0 c).arrAt 3 (cfgs 0).N
    = Cert.ReferenceIdeal.Read.val_main_v19 (F := Ideal) (qn m c) (qr m c) (kn m c) (kr m c) (vv m c) := by
  refine (dats m 0 c).arrAt_eq_of_covers 3 _ covers fun t hfl y => ?_
  obtain ⟨_, _, _, _, h0, h1, h2⟩ := index_at t
  have ey : y = (ix3 (y 0) (y 1) (y 2) : S1x1024x128.Idx) := funext fun a => match a with | 0 => rfl | 1 => rfl | 2 => rfl
  rw [after_3, ey]
  refine (point m c t ⟨_, h0⟩ ⟨_, h1⟩ ⟨_, h2⟩ rfl rfl rfl hf (y 0) (y 1) (y 2)).trans ?_
  exact congrArg _ (out_emb t ⟨_, h0⟩ ⟨_, h1⟩ ⟨_, h2⟩ rfl rfl rfl (y 0) (y 1) (y 2)).symm

end Cert.KernelIdeal.Att

end
-- ==== Proof.Att.Pre.lean ====
/- The precondition: every entry of the queries and keys is real. -/
module

public import proofs.«01_k».proof.Defs
public import proofs.«01_k».proof.Proof.Att.Value

@[expose] public section

set_option maxRecDepth 16384

noncomputable section

set_option maxHeartbeats 100000

namespace Cert.Pre_finite_queries_and_keys

open Idealize.ShloMosaic

theorem facts : Facts where
  concatenates_S8x8192x8x64_S8x8192x8x32_S8x8192x8x96_d3 := by decide
  bcast_S8x8192x32_S8x8192x1x32_0_1_3 := by decide
  bcast_S8x8192x1x32_S8x8192x8x32_0_1_2_3 := by decide
  bcast_S_S8x8192x8x96 := by decide

instance : Facts := facts

/-- An extended real whose absolute value is below infinity is real. -/
theorem real_of_abs_lt (x : EReal) (h : max x (-x) < ⊤) : ∃ r : ℝ, x = r := by
  induction x with
  | bot => simp at h
  | top => simp at h
  | coe r => exact ⟨r, rfl⟩

theorem both : ∀ p q : Bool, IntOp.andi (BitVec.ofBool p) (BitVec.ofBool q) = 1#1 → p = true ∧ q = true := by decide

theorem fn_at (x0 : FVec Ideal S8x8192x8x64 .f32) (x1 : FVec Ideal S8x8192x8x32 .f32) (x2 : FVec Ideal S8x8192x8x64 .f32)
    (x3 : FVec Ideal S8x8192x32 .f32) (x4 : FVec Ideal S8x8192x8x64 .f32) (b h : Fin 8) (q : Fin 8192) (d : Fin 96)
    (H : fn (F := Ideal) x0 x1 x2 x3 x4 (ix4 b q h d) = 1#1) :
    (∃ r : ℝ, (if h_1 : d.val < 64 then x0 (ix4 b q h ⟨d.val, by omega⟩) else x1 (ix4 b q h ⟨d.val - 64, by omega⟩)) = (r : EReal))
      ∧ ∃ r : ℝ, (if h_1 : d.val < 64 then x2 (ix4 b q h ⟨d.val, by omega⟩) else x3 (ix3 b q ⟨d.val - 64, by omega⟩)) = (r : EReal) := by
  revert H
  pointwise [fn]
  intro H
  obtain ⟨h1, h2⟩ := both _ _ H
  have h1' := of_decide_eq_true h1
  have h2' := of_decide_eq_true h2
  rw [Cert.KernelIdeal.Att.ofBits_pos_inf] at h1' h2'
  exact ⟨real_of_abs_lt _ h1', real_of_abs_lt _ h2'⟩

variable (x0 : FVec Ideal S8x8192x8x64 .f32) (x1 : FVec Ideal S8x8192x8x32 .f32) (x2 : FVec Ideal S8x8192x8x64 .f32)
    (x3 : FVec Ideal S8x8192x32 .f32) (x4 : FVec Ideal S8x8192x8x64 .f32) (H : ∀ i, fn (F := Ideal) x0 x1 x2 x3 x4 i = 1#1)

include H

theorem real0 (b : Fin 8) (q : Fin 8192) (h : Fin 8) (d : Fin 64) : ∃ r : ℝ, x0 (ix4 b q h d) = (r : EReal) := by
  have e := (fn_at x0 x1 x2 x3 x4 b h q ⟨d.val, by omega⟩ (H _)).1
  rw [dif_pos d.isLt] at e
  exact e

theorem real1 (b : Fin 8) (q : Fin 8192) (h : Fin 8) (d : Fin 32) : ∃ r : ℝ, x1 (ix4 b q h d) = (r : EReal) := by
  have e := (fn_at x0 x1 x2 x3 x4 b h q ⟨64 + d.val, by omega⟩ (H _)).1
  have a2 : ¬64 + d.val < 64 := by omega
  have a3 : (⟨64 + d.val - 64, by omega⟩ : Fin 32) = d := Fin.ext (Nat.add_sub_cancel_left 64 d.val)
  rw [dif_neg a2, a3] at e
  exact e

theorem real2 (b : Fin 8) (q : Fin 8192) (h : Fin 8) (d : Fin 64) : ∃ r : ℝ, x2 (ix4 b q h d) = (r : EReal) := by
  have e := (fn_at x0 x1 x2 x3 x4 b h q ⟨d.val, by omega⟩ (H _)).2
  rw [dif_pos d.isLt] at e
  exact e

theorem real3 (b : Fin 8) (q : Fin 8192) (d : Fin 32) : ∃ r : ℝ, x3 (ix3 b q d) = (r : EReal) := by
  have e := (fn_at x0 x1 x2 x3 x4 b 0 q ⟨64 + d.val, by omega⟩ (H _)).2
  have a2 : ¬64 + d.val < 64 := by omega
  have a3 : (⟨64 + d.val - 64, by omega⟩ : Fin 32) = d := Fin.ext (Nat.add_sub_cancel_left 64 d.val)
  rw [dif_neg a2, a3] at e
  exact e

end Cert.Pre_finite_queries_and_keys

namespace Cert.KernelIdeal.Att

open Idealize.ShloMosaic Idealize.ShloMosaic.TcCoe Cert.Pre_finite_queries_and_keys

/-- The precondition makes the queries and keys real. -/
theorem finite_of_pre (m : (ℓ : Loc nD τ sig) → Buf (Elt Ideal) ℓ) (h : Cert.Pre_KernelIdeal_finite_queries_and_keys m) (c : Dev nD) : Finite m c := by
  have H : ∀ i, fn (F := Ideal) (qn m c) (qr m c) (kn m c) (kr m c) (vv m c) i = 1#1 := fun i => congrFun (h c) i
  exact {
    qn := fun i => by
      have e : i = ix4 (i 0) (i 1) (i 2) (i 3) := funext fun a => match a with | 0 => rfl | 1 => rfl | 2 => rfl | 3 => rfl
      rw [e]; exact real0 _ _ _ _ _ H (i 0) (i 1) (i 2) (i 3)
    qr := fun i => by
      have e : i = ix4 (i 0) (i 1) (i 2) (i 3) := funext fun a => match a with | 0 => rfl | 1 => rfl | 2 => rfl | 3 => rfl
      rw [e]; exact real1 _ _ _ _ _ H (i 0) (i 1) (i 2) (i 3)
    kn := fun i => by
      have e : i = ix4 (i 0) (i 1) (i 2) (i 3) := funext fun a => match a with | 0 => rfl | 1 => rfl | 2 => rfl | 3 => rfl
      rw [e]; exact real2 _ _ _ _ _ H (i 0) (i 1) (i 2) (i 3)
    kr := fun i => by
      have e : i = ix3 (i 0) (i 1) (i 2) := funext fun a => match a with | 0 => rfl | 1 => rfl | 2 => rfl
      rw [e]; exact real3 _ _ _ _ _ H (i 0) (i 1) (i 2) }

end Cert.KernelIdeal.Att

end
-- ==== Proof.lean ====
module

public import proofs.«01_k».proof.Proof.Out.Final
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Att.Run
public import proofs.«01_k».proof.Proof.Att.Pre
public import Idealize.ShloMosaic.Adequacy
public import Idealize.ShloMosaic.Init

@[expose] public section

set_option maxRecDepth 16384

noncomputable section

namespace Cert.Proof

open Idealize.ShloMosaic Idealize.SL.Sem Cert.Kernel

/-! The kernel and its idealization have the same text: the body, the table of bodies, and so the run. -/

theorem body_eq {F : FTy → Type} [FloatOps F] : @Cert.Kernel.cc0_attention F _ _ = @Cert.KernelIdeal.cc0_attention F _ _ := rfl

theorem table_eq {F : FTy → Type} [FloatOps F] : (Cert.Kernel.defs₀ (F := F)) = Cert.KernelIdeal.defs₀ := by
  unfold Cert.Kernel.defs₀ Cert.KernelIdeal.defs₀
  refine congrArg Defs.onTc (funext fun l => funext fun a => ?_)
  match l, a with
  | ⟨0, _⟩, (t, s) => rfl

theorem defs_eq {F : FTy → Type} [FloatOps F] : (Cert.Kernel.defs (F := F)) = Cert.KernelIdeal.defs :=
  congrArg (Pipeline.defs Cert.KernelIdeal.pcfgs) table_eq

theorem frame_kernel : Cert.quiescent_Kernel := fun m ρ _ => by
  have h := Cert.KernelIdeal.Att.frame (F := Bits) m ρ
  rw [← defs_eq] at h
  exact h

theorem frame_ideal : Cert.quiescent_KernelIdeal :=
  fun m ρ _ => Cert.KernelIdeal.Att.frame (F := Ideal) m ρ

theorem frame_reference : Cert.quiescent_ReferenceIdeal :=
  fun m ρ _ => (θ_run _ _ _).mono (fun _ h => ⟨fun c => (h c).2, sem_eq_zero_of_no_sems (by decide) _⟩)
    (Cert.ReferenceIdeal.Value.run (F := Ideal) m ρ)

theorem frame_ideal_finite : Cert.quiescent_KernelIdeal_pre_finite_queries_and_keys :=
  fun m ρ _ => Cert.KernelIdeal.Att.frame (F := Ideal) m ρ

theorem frame_reference_finite : Cert.quiescent_ReferenceIdeal_pre_finite_queries_and_keys :=
  fun m ρ _ => (θ_run _ _ _).mono (fun _ h => ⟨fun c => (h c).2, sem_eq_zero_of_no_sems (by decide) _⟩)
    (Cert.ReferenceIdeal.Value.run (F := Ideal) m ρ)

open Cert.KernelIdeal.Att in
/-- The attention kernel and the reference end with the same array. -/
theorem algebraic : Cert.algebraic_KernelIdeal_ReferenceIdeal_pre_finite_queries_and_keys := by
  intro m g m' g' hpre hagree
  refine ⟨fun c => Cert.ReferenceIdeal.Read.val_main_v19 (F := Ideal) (qn m c) (qr m c) (kn m c) (kr m c) (vv m c), ?_, ?_⟩
  · refine (θ_run _ _ _).mono (fun r h c => ?_) (Cert.KernelIdeal.Att.run_main (F := Ideal) m g)
    refine ⟨((h c).1 3).trans (final m c (finite_of_pre m hpre c)), ?_, ?_, ?_, ?_, ?_⟩
    · exact ((h c).2 Cert.KernelIdeal.main_arg0 (Pipeline.mem_restRefs_of Cert.KernelIdeal.main_arg0 (by decide) (by decide))).trans (Cert.KernelIdeal.Gen.V_main_arg0 m c)
    · exact ((h c).2 Cert.KernelIdeal.main_arg1 (Pipeline.mem_restRefs_of Cert.KernelIdeal.main_arg1 (by decide) (by decide))).trans (Cert.KernelIdeal.Gen.V_main_arg1 m c)
    · exact ((h c).2 Cert.KernelIdeal.main_arg2 (Pipeline.mem_restRefs_of Cert.KernelIdeal.main_arg2 (by decide) (by decide))).trans (Cert.KernelIdeal.Gen.V_main_arg2 m c)
    · exact ((h c).2 Cert.KernelIdeal.main_arg3 (Pipeline.mem_restRefs_of Cert.KernelIdeal.main_arg3 (by decide) (by decide))).trans (Cert.KernelIdeal.Gen.V_main_arg3 m c)
    · exact ((h c).2 Cert.KernelIdeal.main_arg4 (Pipeline.mem_restRefs_of Cert.KernelIdeal.main_arg4 (by decide) (by decide))).trans (Cert.KernelIdeal.Gen.V_main_arg4 m c)
  · refine (θ_run _ _ _).mono (fun r h c => ⟨(h c).1.trans ?_, (h c).2⟩) (Cert.ReferenceIdeal.Value.run (F := Ideal) m' g')
    obtain ⟨e0, e1, e2, e3, e4⟩ := hagree c
    rw [e0, e1, e2, e3, e4]
    exact Cert.ReferenceIdeal.Read.val_main_v19_eq _ _ _ _ _

/-! The output projection with its feed-forward part. -/

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal :=
  fun m ρ _ => (θ_run _ _ _).mono (fun _ h => ⟨fun c => (h c).2, sem_eq_zero_of_no_sems (by decide) _⟩)
    (Cert.Reference2Ideal.Value.run (F := Ideal) m ρ)

open Cert.Kernel2Ideal.Out in
/-- The kernel's output projection and feed-forward part and the reference's end with the same array. -/
theorem algebraic2 : Cert.algebraic_Kernel2Ideal_Reference2Ideal := by
  intro m g m' g' hpre hagree
  refine ⟨fun c => Cert.Reference2Ideal.Read.val_main_v20 (F := Ideal) (a0 m c) (a1 m c) (a2 m c) (a3 m c) (a4 m c) (a5 m c) (a6 m c), ?_, ?_⟩
  · refine (θ_run _ _ _).mono (fun r h c => ?_) (Cert.Kernel2Ideal.Gen.run_main (F := Ideal) m g)
    refine ⟨((h c).1 7).trans (final m c), ?_, ?_, ?_, ?_, ?_, ?_, ?_⟩
    · exact ((h c).1 0).trans (((Cert.Kernel2Ideal.Gen.dats m 0 c).arrAt_in 0 rfl _).trans ((Cert.Kernel2Ideal.Gen.A_eq m c 0).trans (Cert.Kernel2Ideal.Gen.V_main_arg0 m c)))
    · exact ((h c).2 Cert.Kernel2Ideal.main_arg1 (Pipeline.mem_restRefs_of Cert.Kernel2Ideal.main_arg1 (by decide) (by decide))).trans (Cert.Kernel2Ideal.Gen.V_main_arg1 m c)
    · exact ((h c).1 2).trans (((Cert.Kernel2Ideal.Gen.dats m 0 c).arrAt_in 2 rfl _).trans ((Cert.Kernel2Ideal.Gen.A_eq m c 2).trans (Cert.Kernel2Ideal.Gen.V_main_arg2 m c)))
    · exact ((h c).2 Cert.Kernel2Ideal.main_arg3 (Pipeline.mem_restRefs_of Cert.Kernel2Ideal.main_arg3 (by decide) (by decide))).trans (Cert.Kernel2Ideal.Gen.V_main_arg3 m c)
    · exact ((h c).2 Cert.Kernel2Ideal.main_arg4 (Pipeline.mem_restRefs_of Cert.Kernel2Ideal.main_arg4 (by decide) (by decide))).trans (Cert.Kernel2Ideal.Gen.V_main_arg4 m c)
    · exact ((h c).2 Cert.Kernel2Ideal.main_arg5 (Pipeline.mem_restRefs_of Cert.Kernel2Ideal.main_arg5 (by decide) (by decide))).trans (Cert.Kernel2Ideal.Gen.V_main_arg5 m c)
    · exact ((h c).2 Cert.Kernel2Ideal.main_arg6 (Pipeline.mem_restRefs_of Cert.Kernel2Ideal.main_arg6 (by decide) (by decide))).trans (Cert.Kernel2Ideal.Gen.V_main_arg6 m c)
  · refine (θ_run _ _ _).mono (fun r h c => ⟨(h c).1.trans ?_, (h c).2⟩) (Cert.Reference2Ideal.Value.run (F := Ideal) m' g')
    obtain ⟨e0, e1, e2, e3, e4, e5, e6⟩ := hagree c
    refine (Cert.Reference2Ideal.Read.val_main_v20_eq m' c).trans ?_
    rw [e0, e1, e2, e3, e4, e5, e6]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_finite_queries_and_keys.facts, frame_kernel, frame_ideal, frame_ideal_finite, frame_reference,
    frame_reference_finite, frame_kernel2, frame_ideal2, frame_reference2, trivial, algebraic, trivial, algebraic2⟩

end Cert.Proof

end
